-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v39)) (v1 : (c : Dev Cert.KernelIdeal.nD) → Buf (Elt Ideal) ((c.tc : Thread Cert.KernelIdeal.nD Cert.KernelIdeal.τ).loc Cert.KernelIdeal.main_v46)) (v2 : (c : Dev Cert.KernelIdeal.nD) → Buf (Elt Ideal) ((c.tc : Thread Cert.KernelIdeal.nD Cert.KernelIdeal.τ).loc Cert.KernelIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_v46) = v1 c
          ∧ r.2.mem ((c.tc : Thread Cert.KernelIdeal.nD Cert.KernelIdeal.τ).loc Cert.KernelIdeal.main_v42) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v85) = v0 c
          ∧ r.2.mem ((c.tc : Thread Cert.ReferenceIdeal.nD Cert.ReferenceIdeal.τ).loc Cert.ReferenceIdeal.main_v90) = v1 c
          ∧ r.2.mem ((c.tc : Thread Cert.ReferenceIdeal.nD Cert.ReferenceIdeal.τ).loc Cert.ReferenceIdeal.main_v86) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16x4x15130 : Shape := ⟨3, ![16, 4, 15130]⟩
abbrev S16x81x15130 : Shape := ⟨3, ![16, 81, 15130]⟩
abbrev S15130x4 : Shape := ⟨2, ![15130, 4]⟩
abbrev S_ : Shape := ⟨0, ![]⟩
abbrev S16x4x15232 : Shape := ⟨3, ![16, 4, 15232]⟩
abbrev S16x81x15232 : Shape := ⟨3, ![16, 81, 15232]⟩
abbrev S4x15130 : Shape := ⟨2, ![4, 15130]⟩
abbrev S4x15232 : Shape := ⟨2, ![4, 15232]⟩
abbrev S16x80x15232 : Shape := ⟨3, ![16, 80, 15232]⟩
abbrev S1x4x15232 : Shape := ⟨3, ![1, 4, 15232]⟩
abbrev S1x81x15232 : Shape := ⟨3, ![1, 81, 15232]⟩
abbrev S1x80x15232 : Shape := ⟨3, ![1, 80, 15232]⟩
abbrev S81x15232 : Shape := ⟨2, ![81, 15232]⟩
abbrev S15232 : Shape := ⟨1, ![15232]⟩
abbrev S1x15232 : Shape := ⟨2, ![1, 15232]⟩
abbrev S80x15232 : Shape := ⟨2, ![80, 15232]⟩
abbrev S1280x17x896 : Shape := ⟨3, ![1280, 17, 896]⟩
abbrev S1280x17x200 : Shape := ⟨3, ![1280, 17, 200]⟩
abbrev S17 : Shape := ⟨1, ![17]⟩
abbrev S1x17x1 : Shape := ⟨3, ![1, 17, 1]⟩
abbrev S1280x3400 : Shape := ⟨2, ![1280, 3400]⟩
abbrev S1280x200 : Shape := ⟨2, ![1280, 200]⟩
abbrev S1280x200x1 : Shape := ⟨3, ![1280, 200, 1]⟩
abbrev S1 : Shape := ⟨1, ![1]⟩
abbrev S1x1x1 : Shape := ⟨3, ![1, 1, 1]⟩
abbrev S16x80x200 : Shape := ⟨3, ![16, 80, 200]⟩
abbrev S16x1x15232 : Shape := ⟨3, ![16, 1, 15232]⟩
abbrev S16x80x200x1 : Shape := ⟨4, ![16, 80, 200, 1]⟩
abbrev S16x15232 : Shape := ⟨2, ![16, 15232]⟩
abbrev S1x1x1x1 : Shape := ⟨4, ![1, 1, 1, 1]⟩
abbrev S1x16x200 : Shape := ⟨3, ![1, 16, 200]⟩
abbrev S200x16x200 : Shape := ⟨3, ![200, 16, 200]⟩
abbrev S16x200 : Shape := ⟨2, ![16, 200]⟩
abbrev S200x16 : Shape := ⟨2, ![200, 16]⟩
abbrev S200x16x1 : Shape := ⟨3, ![200, 16, 1]⟩
abbrev S200x1x200 : Shape := ⟨3, ![200, 1, 200]⟩
abbrev S16 : Shape := ⟨1, ![16]⟩
abbrev S16x1 : Shape := ⟨2, ![16, 1]⟩
abbrev S16x16000 : Shape := ⟨2, ![16, 16000]⟩
abbrev S16x200x1 : Shape := ⟨3, ![16, 200, 1]⟩
abbrev S16x200x4 : Shape := ⟨3, ![16, 200, 4]⟩

abbrev nBuf : Space → Nat
  | .hbm => 279
  | .vmem => 22
  | .smem => 0
  | _ => 0

abbrev hbmTy0_0 (i : Nat) : BufTy := match i % 128 with
  | 0 => ⟨S16x4x15130, .f32⟩
  | 1 => ⟨S16x81x15130, .f32⟩
  | 2 => ⟨S15130x4, .f32⟩
  | 3 => ⟨S_, .i32⟩
  | 4 => ⟨S_, .f32⟩
  | 5 => ⟨S16x4x15232, .f32⟩
  | 6 => ⟨S_, .f32⟩
  | 7 => ⟨S_, .f32⟩
  | 8 => ⟨S16x81x15232, .f32⟩
  | 9 => ⟨S4x15130, .f32⟩
  | 10 => ⟨S_, .i32⟩
  | 11 => ⟨S_, .f32⟩
  | 12 => ⟨S4x15232, .f32⟩
  | 13 => ⟨S16x4x15232, .f32⟩
  | 14 => ⟨S16x80x15232, .f32⟩
  | 15 => ⟨S1280x17x896, .f32⟩
  | 16 => ⟨S1280x17x200, .f32⟩
  | 17 => ⟨S1280x17x200, .i32⟩
  | 18 => ⟨S17, .i32⟩
  | 19 => ⟨S_, .i32⟩
  | 20 => ⟨S17, .i32⟩
  | 21 => ⟨S17, .i32⟩
  | 22 => ⟨S1x17x1, .i32⟩
  | 23 => ⟨S1280x17x200, .i32⟩
  | 24 => ⟨S1280x17x200, .i32⟩
  | 25 => ⟨S1280x3400, .i32⟩
  | 26 => ⟨S1280x3400, .f32⟩
  | 27 => ⟨S1280x200, .f32⟩
  | 28 => ⟨S1280x200, .i32⟩
  | 29 => ⟨S_, .i32⟩
  | 30 => ⟨S1280x200, .i32⟩
  | 31 => ⟨S1280x200, .i1⟩
  | 32 => ⟨S_, .i32⟩
  | 33 => ⟨S1280x200, .i32⟩
  | 34 => ⟨S1280x200, .i32⟩
  | 35 => ⟨S1280x200, .i32⟩
  | 36 => ⟨S1280x200x1, .i32⟩
  | 37 => ⟨S1, .i32⟩
  | 38 => ⟨S_, .i32⟩
  | 39 => ⟨S1280x200x1, .i32⟩
  | 40 => ⟨S1280x200x1, .i1⟩
  | 41 => ⟨S1x1x1, .i32⟩
  | 42 => ⟨S1280x200x1, .i32⟩
  | 43 => ⟨S1280x200x1, .i1⟩
  | 44 => ⟨S1280x200x1, .i1⟩
  | 45 => ⟨S_, .i1⟩
  | 46 => ⟨S1280x200, .i1⟩
  | 47 => ⟨S1280x200, .i32⟩
  | 48 => ⟨S_, .i32⟩
  | 49 => ⟨S1280x200, .i32⟩
  | 50 => ⟨S1280x200, .i32⟩
  | 51 => ⟨S16x80x200, .f32⟩
  | 52 => ⟨S16x80x200, .i32⟩
  | 53 => ⟨S16x1x15232, .f32⟩
  | 54 => ⟨S_, .i32⟩
  | 55 => ⟨S16x80x200, .i32⟩
  | 56 => ⟨S16x80x200, .i1⟩
  | 57 => ⟨S_, .i32⟩
  | 58 => ⟨S16x80x200, .i32⟩
  | 59 => ⟨S16x80x200, .i32⟩
  | 60 => ⟨S16x80x200, .i32⟩
  | 61 => ⟨S16x80x200x1, .i32⟩
  | 62 => ⟨S16x15232, .f32⟩
  | 63 => ⟨S1, .i32⟩
  | 64 => ⟨S_, .i32⟩
  | 65 => ⟨S16x80x200x1, .i32⟩
  | 66 => ⟨S16x80x200x1, .i1⟩
  | 67 => ⟨S1x1x1x1, .i32⟩
  | 68 => ⟨S16x80x200x1, .i32⟩
  | 69 => ⟨S16x80x200x1, .i1⟩
  | 70 => ⟨S16x80x200x1, .i1⟩
  | 71 => ⟨S_, .i1⟩
  | 72 => ⟨S16x80x200, .i1⟩
  | 73 => ⟨S16x80x200, .f32⟩
  | 74 => ⟨S_, .f32⟩
  | 75 => ⟨S16x80x200, .f32⟩
  | 76 => ⟨S16x80x200, .f32⟩
  | 77 => ⟨S16x1x15232, .f32⟩
  | 78 => ⟨S_, .i32⟩
  | 79 => ⟨S16x80x200, .i32⟩
  | 80 => ⟨S16x80x200, .i1⟩
  | 81 => ⟨S_, .i32⟩
  | 82 => ⟨S16x80x200, .i32⟩
  | 83 => ⟨S16x80x200, .i32⟩
  | 84 => ⟨S16x80x200, .i32⟩
  | 85 => ⟨S16x80x200x1, .i32⟩
  | 86 => ⟨S16x15232, .f32⟩
  | 87 => ⟨S1, .i32⟩
  | 88 => ⟨S_, .i32⟩
  | 89 => ⟨S16x80x200x1, .i32⟩
  | 90 => ⟨S16x80x200x1, .i1⟩
  | 91 => ⟨S1x1x1x1, .i32⟩
  | 92 => ⟨S16x80x200x1, .i32⟩
  | 93 => ⟨S16x80x200x1, .i1⟩
  | 94 => ⟨S16x80x200x1, .i1⟩
  | 95 => ⟨S_, .i1⟩
  | 96 => ⟨S16x80x200, .i1⟩
  | 97 => ⟨S16x80x200, .f32⟩
  | 98 => ⟨S_, .f32⟩
  | 99 => ⟨S16x80x200, .f32⟩
  | 100 => ⟨S16x80x200, .f32⟩
  | 101 => ⟨S16x1x15232, .f32⟩
  | 102 => ⟨S_, .i32⟩
  | 103 => ⟨S16x80x200, .i32⟩
  | 104 => ⟨S16x80x200, .i1⟩
  | 105 => ⟨S_, .i32⟩
  | 106 => ⟨S16x80x200, .i32⟩
  | 107 => ⟨S16x80x200, .i32⟩
  | 108 => ⟨S16x80x200, .i32⟩
  | 109 => ⟨S16x80x200x1, .i32⟩
  | 110 => ⟨S16x15232, .f32⟩
  | 111 => ⟨S1, .i32⟩
  | 112 => ⟨S_, .i32⟩
  | 113 => ⟨S16x80x200x1, .i32⟩
  | 114 => ⟨S16x80x200x1, .i1⟩
  | 115 => ⟨S1x1x1x1, .i32⟩
  | 116 => ⟨S16x80x200x1, .i32⟩
  | 117 => ⟨S16x80x200x1, .i1⟩
  | 118 => ⟨S16x80x200x1, .i1⟩
  | 119 => ⟨S_, .i1⟩
  | 120 => ⟨S16x80x200, .i1⟩
  | 121 => ⟨S16x80x200, .f32⟩
  | 122 => ⟨S_, .f32⟩
  | 123 => ⟨S16x80x200, .f32⟩
  | 124 => ⟨S16x80x200, .f32⟩
  | 125 => ⟨S16x1x15232, .f32⟩
  | 126 => ⟨S_, .i32⟩
  | 127 => ⟨S16x80x200, .i32⟩
  | _ => ⟨S16x4x15130, .f32⟩

abbrev hbmTy0_1 (i : Nat) : BufTy := match i % 128 with
  | 0 => ⟨S16x80x200, .i1⟩
  | 1 => ⟨S_, .i32⟩
  | 2 => ⟨S16x80x200, .i32⟩
  | 3 => ⟨S16x80x200, .i32⟩
  | 4 => ⟨S16x80x200, .i32⟩
  | 5 => ⟨S16x80x200x1, .i32⟩
  | 6 => ⟨S16x15232, .f32⟩
  | 7 => ⟨S1, .i32⟩
  | 8 => ⟨S_, .i32⟩
  | 9 => ⟨S16x80x200x1, .i32⟩
  | 10 => ⟨S16x80x200x1, .i1⟩
  | 11 => ⟨S1x1x1x1, .i32⟩
  | 12 => ⟨S16x80x200x1, .i32⟩
  | 13 => ⟨S16x80x200x1, .i1⟩
  | 14 => ⟨S16x80x200x1, .i1⟩
  | 15 => ⟨S_, .i1⟩
  | 16 => ⟨S16x80x200, .i1⟩
  | 17 => ⟨S16x80x200, .f32⟩
  | 18 => ⟨S_, .f32⟩
  | 19 => ⟨S16x80x200, .f32⟩
  | 20 => ⟨S16x80x200, .f32⟩
  | 21 => ⟨S16x80x200, .f32⟩
  | 22 => ⟨S16x16000, .f32⟩
  | 23 => ⟨S16x200, .f32⟩
  | 24 => ⟨S16x200, .i32⟩
  | 25 => ⟨S16x16000, .f32⟩
  | 26 => ⟨S_, .i32⟩
  | 27 => ⟨S16x200, .i32⟩
  | 28 => ⟨S16x200, .i1⟩
  | 29 => ⟨S_, .i32⟩
  | 30 => ⟨S16x200, .i32⟩
  | 31 => ⟨S16x200, .i32⟩
  | 32 => ⟨S16x200, .i32⟩
  | 33 => ⟨S16x200x1, .i32⟩
  | 34 => ⟨S1, .i32⟩
  | 35 => ⟨S_, .i32⟩
  | 36 => ⟨S16x200x1, .i32⟩
  | 37 => ⟨S16x200x1, .i1⟩
  | 38 => ⟨S1x1x1, .i32⟩
  | 39 => ⟨S16x200x1, .i32⟩
  | 40 => ⟨S16x200x1, .i1⟩
  | 41 => ⟨S16x200x1, .i1⟩
  | 42 => ⟨S_, .i1⟩
  | 43 => ⟨S16x200, .i1⟩
  | 44 => ⟨S16x200, .f32⟩
  | 45 => ⟨S_, .f32⟩
  | 46 => ⟨S16x200, .f32⟩
  | 47 => ⟨S16x200, .f32⟩
  | 48 => ⟨S16x16000, .f32⟩
  | 49 => ⟨S_, .i32⟩
  | 50 => ⟨S16x200, .i32⟩
  | 51 => ⟨S16x200, .i1⟩
  | 52 => ⟨S_, .i32⟩
  | 53 => ⟨S16x200, .i32⟩
  | 54 => ⟨S16x200, .i32⟩
  | 55 => ⟨S16x200, .i32⟩
  | 56 => ⟨S16x200x1, .i32⟩
  | 57 => ⟨S1, .i32⟩
  | 58 => ⟨S_, .i32⟩
  | 59 => ⟨S16x200x1, .i32⟩
  | 60 => ⟨S16x200x1, .i1⟩
  | 61 => ⟨S1x1x1, .i32⟩
  | 62 => ⟨S16x200x1, .i32⟩
  | 63 => ⟨S16x200x1, .i1⟩
  | 64 => ⟨S16x200x1, .i1⟩
  | 65 => ⟨S_, .i1⟩
  | 66 => ⟨S16x200, .i1⟩
  | 67 => ⟨S16x200, .f32⟩
  | 68 => ⟨S_, .f32⟩
  | 69 => ⟨S16x200, .f32⟩
  | 70 => ⟨S16x200, .f32⟩
  | 71 => ⟨S16x16000, .f32⟩
  | 72 => ⟨S_, .i32⟩
  | 73 => ⟨S16x200, .i32⟩
  | 74 => ⟨S16x200, .i1⟩
  | 75 => ⟨S_, .i32⟩
  | 76 => ⟨S16x200, .i32⟩
  | 77 => ⟨S16x200, .i32⟩
  | 78 => ⟨S16x200, .i32⟩
  | 79 => ⟨S16x200x1, .i32⟩
  | 80 => ⟨S1, .i32⟩
  | 81 => ⟨S_, .i32⟩
  | 82 => ⟨S16x200x1, .i32⟩
  | 83 => ⟨S16x200x1, .i1⟩
  | 84 => ⟨S1x1x1, .i32⟩
  | 85 => ⟨S16x200x1, .i32⟩
  | 86 => ⟨S16x200x1, .i1⟩
  | 87 => ⟨S16x200x1, .i1⟩
  | 88 => ⟨S_, .i1⟩
  | 89 => ⟨S16x200, .i1⟩
  | 90 => ⟨S16x200, .f32⟩
  | 91 => ⟨S_, .f32⟩
  | 92 => ⟨S16x200, .f32⟩
  | 93 => ⟨S16x200, .f32⟩
  | 94 => ⟨S16x16000, .f32⟩
  | 95 => ⟨S_, .i32⟩
  | 96 => ⟨S16x200, .i32⟩
  | 97 => ⟨S16x200, .i1⟩
  | 98 => ⟨S_, .i32⟩
  | 99 => ⟨S16x200, .i32⟩
  | 100 => ⟨S16x200, .i32⟩
  | 101 => ⟨S16x200, .i32⟩
  | 102 => ⟨S16x200x1, .i32⟩
  | 103 => ⟨S1, .i32⟩
  | 104 => ⟨S_, .i32⟩
  | 105 => ⟨S16x200x1, .i32⟩
  | 106 => ⟨S16x200x1, .i1⟩
  | 107 => ⟨S1x1x1, .i32⟩
  | 108 => ⟨S16x200x1, .i32⟩
  | 109 => ⟨S16x200x1, .i1⟩
  | 110 => ⟨S16x200x1, .i1⟩
  | 111 => ⟨S_, .i1⟩
  | 112 => ⟨S16x200, .i1⟩
  | 113 => ⟨S16x200, .f32⟩
  | 114 => ⟨S_, .f32⟩
  | 115 => ⟨S16x200, .f32⟩
  | 116 => ⟨S16x200, .f32⟩
  | 117 => ⟨S16x200x1, .f32⟩
  | 118 => ⟨S16x200x1, .f32⟩
  | 119 => ⟨S16x200x1, .f32⟩
  | 120 => ⟨S16x200x1, .f32⟩
  | 121 => ⟨S16x200x4, .f32⟩
  | 122 => ⟨S_, .i32⟩
  | 123 => ⟨S_, .i32⟩
  | 124 => ⟨S16x200, .i32⟩
  | 125 => ⟨S16x200, .i32⟩
  | 126 => ⟨S16x200, .i32⟩
  | 127 => ⟨S_, .i32⟩
  | _ => ⟨S16x4x15130, .f32⟩

abbrev hbmTy0_2 (i : Nat) : BufTy := match i % 128 with
  | 0 => ⟨S16x200, .i32⟩
  | 1 => ⟨S16x200, .i1⟩
  | 2 => ⟨S16x200, .i32⟩
  | 3 => ⟨S16x200, .i32⟩
  | 4 => ⟨S_, .i32⟩
  | 5 => ⟨S16x200, .i32⟩
  | 6 => ⟨S16x200, .i1⟩
  | 7 => ⟨S16x200, .i1⟩
  | 8 => ⟨S_, .i32⟩
  | 9 => ⟨S16x200, .i32⟩
  | 10 => ⟨S16x200, .i32⟩
  | 11 => ⟨S16x200, .i32⟩
  | 12 => ⟨S_, .i32⟩
  | 13 => ⟨S16x200, .i32⟩
  | 14 => ⟨S16x200, .i32⟩
  | 15 => ⟨S16x200, .f32⟩
  | 16 => ⟨S_, .f32⟩
  | 17 => ⟨S16x200, .f32⟩
  | 18 => ⟨S16x200, .i1⟩
  | 19 => ⟨S_, .f32⟩
  | 20 => ⟨S_, .f32⟩
  | 21 => ⟨S16x200, .f32⟩
  | 22 => ⟨S16x200, .f32⟩
  | _ => ⟨S16x4x15130, .f32⟩

abbrev hbmTy (i : Nat) : BufTy := match i / 128 with
  | 0 => hbmTy0_0 i
  | 1 => hbmTy0_1 i
  | 2 => hbmTy0_2 i
  | _ => ⟨S16x4x15130, .f32⟩

abbrev bufTy : (tb : Table) → Fin (tcTables nBuf tb) → BufTy
  | .hbm, ⟨i, _⟩ => hbmTy i
  | .local _ .vmem, ⟨0, _⟩ => ⟨S4x15232, .f32⟩
  | .local _ .vmem, ⟨1, _⟩ => ⟨S1x4x15232, .f32⟩
  | .local _ .vmem, ⟨2, _⟩ => ⟨S1x4x15232, .f32⟩
  | .local _ .vmem, ⟨3, _⟩ => ⟨S1x81x15232, .f32⟩
  | .local _ .vmem, ⟨4, _⟩ => ⟨S1x81x15232, .f32⟩
  | .local _ .vmem, ⟨5, _⟩ => ⟨S1x4x15232, .f32⟩
  | .local _ .vmem, ⟨6, _⟩ => ⟨S1x4x15232, .f32⟩
  | .local _ .vmem, ⟨7, _⟩ => ⟨S1x80x15232, .f32⟩
  | .local _ .vmem, ⟨8, _⟩ => ⟨S1x80x15232, .f32⟩
  | .local _ .vmem, ⟨9, _⟩ => ⟨S1x16x200, .f32⟩
  | .local _ .vmem, ⟨10, _⟩ => ⟨S1x16x200, .f32⟩
  | .local _ .vmem, ⟨11, _⟩ => ⟨S1x16x200, .f32⟩
  | .local _ .vmem, ⟨12, _⟩ => ⟨S1x16x200, .f32⟩
  | .local _ .vmem, ⟨13, _⟩ => ⟨S1x16x200, .f32⟩
  | .local _ .vmem, ⟨14, _⟩ => ⟨S1x16x200, .f32⟩
  | .local _ .vmem, ⟨15, _⟩ => ⟨S1x16x200, .f32⟩
  | .local _ .vmem, ⟨16, _⟩ => ⟨S1x16x200, .f32⟩
  | .local _ .vmem, ⟨17, _⟩ => ⟨S1x16x200, .f32⟩
  | .local _ .vmem, ⟨18, _⟩ => ⟨S1x16x200, .f32⟩
  | .local _ .vmem, ⟨19, _⟩ => ⟨S1x16x200, .f32⟩
  | .local _ .vmem, ⟨20, _⟩ => ⟨S1x16x200, .f32⟩
  | .local _ .vmem, ⟨21, _⟩ => ⟨S200x16x200, .f32⟩
  | _, _ => ⟨S16x4x15130, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_cst : Ref sig .tc := ⟨.hbm, 6, rfl⟩
abbrev main_call1_v0 : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_call2_v0 : Ref sig .tc := ⟨.hbm, 11, rfl⟩
abbrev main_v3 : Ref sig .tc := ⟨.hbm, 12, rfl⟩
abbrev main_v4_0 : Ref sig .tc := ⟨.hbm, 13, rfl⟩
abbrev main_v4_1 : Ref sig .tc := ⟨.hbm, 14, rfl⟩
abbrev main_v5 : Ref sig .tc := ⟨.hbm, 15, rfl⟩
abbrev main_values : Ref sig .tc := ⟨.hbm, 16, rfl⟩
abbrev main_indices : Ref sig .tc := ⟨.hbm, 17, rfl⟩
abbrev main_v6 : Ref sig .tc := ⟨.hbm, 18, rfl⟩
abbrev main_c_1 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_values_2 : Ref sig .tc := ⟨.hbm, 27, rfl⟩
abbrev main_indices_3 : Ref sig .tc := ⟨.hbm, 28, rfl⟩
abbrev main_call3_c : Ref sig .tc := ⟨.hbm, 29, rfl⟩
abbrev main_call3_v0 : Ref sig .tc := ⟨.hbm, 30, rfl⟩
abbrev main_call3_v1 : Ref sig .tc := ⟨.hbm, 31, rfl⟩
abbrev main_call3_c_0 : Ref sig .tc := ⟨.hbm, 32, rfl⟩
abbrev main_call3_v2 : Ref sig .tc := ⟨.hbm, 33, rfl⟩
abbrev main_call3_v3 : Ref sig .tc := ⟨.hbm, 34, rfl⟩
abbrev main_call3_v4 : Ref sig .tc := ⟨.hbm, 35, rfl⟩
abbrev main_call3_v5 : Ref sig .tc := ⟨.hbm, 36, rfl⟩
abbrev main_call3_c_1 : Ref sig .tc := ⟨.hbm, 37, rfl⟩
abbrev main_call3_c_2 : Ref sig .tc := ⟨.hbm, 38, rfl⟩
abbrev main_call3_v6 : Ref sig .tc := ⟨.hbm, 39, rfl⟩
abbrev main_call3_v7 : Ref sig .tc := ⟨.hbm, 40, rfl⟩
abbrev main_call3_v8 : Ref sig .tc := ⟨.hbm, 41, rfl⟩
abbrev main_call3_v9 : Ref sig .tc := ⟨.hbm, 42, rfl⟩
abbrev main_call3_v10 : Ref sig .tc := ⟨.hbm, 43, rfl⟩
abbrev main_call3_v11 : Ref sig .tc := ⟨.hbm, 44, rfl⟩
abbrev main_call3_c_3 : Ref sig .tc := ⟨.hbm, 45, rfl⟩
abbrev main_call3_v12 : Ref sig .tc := ⟨.hbm, 46, rfl⟩
abbrev main_call3_v13 : Ref sig .tc := ⟨.hbm, 47, rfl⟩
abbrev main_call3_c_4 : Ref sig .tc := ⟨.hbm, 48, rfl⟩
abbrev main_call3_v14 : Ref sig .tc := ⟨.hbm, 49, rfl⟩
abbrev main_v14 : Ref sig .tc := ⟨.hbm, 50, rfl⟩
abbrev main_v15 : Ref sig .tc := ⟨.hbm, 51, rfl⟩
abbrev main_v16 : Ref sig .tc := ⟨.hbm, 52, rfl⟩
abbrev main_v17 : Ref sig .tc := ⟨.hbm, 53, rfl⟩
abbrev main_call4_c : Ref sig .tc := ⟨.hbm, 54, rfl⟩
abbrev main_call4_v0 : Ref sig .tc := ⟨.hbm, 55, rfl⟩
abbrev main_call4_v1 : Ref sig .tc := ⟨.hbm, 56, rfl⟩
abbrev main_call4_c_0 : Ref sig .tc := ⟨.hbm, 57, rfl⟩
abbrev main_call4_v2 : Ref sig .tc := ⟨.hbm, 58, rfl⟩
abbrev main_call4_v3 : Ref sig .tc := ⟨.hbm, 59, rfl⟩
abbrev main_call4_v4 : Ref sig .tc := ⟨.hbm, 60, rfl⟩
abbrev main_call4_v5 : Ref sig .tc := ⟨.hbm, 61, rfl⟩
abbrev main_call4_v6 : Ref sig .tc := ⟨.hbm, 62, rfl⟩
abbrev main_call4_c_1 : Ref sig .tc := ⟨.hbm, 63, rfl⟩
abbrev main_call4_c_2 : Ref sig .tc := ⟨.hbm, 64, rfl⟩
abbrev main_call4_v7 : Ref sig .tc := ⟨.hbm, 65, rfl⟩
abbrev main_call4_v8 : Ref sig .tc := ⟨.hbm, 66, rfl⟩
abbrev main_call4_v9 : Ref sig .tc := ⟨.hbm, 67, rfl⟩
abbrev main_call4_v10 : Ref sig .tc := ⟨.hbm, 68, rfl⟩
abbrev main_call4_v11 : Ref sig .tc := ⟨.hbm, 69, rfl⟩
abbrev main_call4_v12 : Ref sig .tc := ⟨.hbm, 70, rfl⟩
abbrev main_call4_c_3 : Ref sig .tc := ⟨.hbm, 71, rfl⟩
abbrev main_call4_v13 : Ref sig .tc := ⟨.hbm, 72, rfl⟩
abbrev main_call4_v14 : Ref sig .tc := ⟨.hbm, 73, rfl⟩
abbrev main_call4_cst : Ref sig .tc := ⟨.hbm, 74, rfl⟩
abbrev main_call4_v15 : Ref sig .tc := ⟨.hbm, 75, rfl⟩
abbrev main_v18 : Ref sig .tc := ⟨.hbm, 76, rfl⟩
abbrev main_v19 : Ref sig .tc := ⟨.hbm, 77, rfl⟩
abbrev main_call5_c : Ref sig .tc := ⟨.hbm, 78, rfl⟩
abbrev main_call5_v0 : Ref sig .tc := ⟨.hbm, 79, rfl⟩
abbrev main_call5_v1 : Ref sig .tc := ⟨.hbm, 80, rfl⟩
abbrev main_call5_c_0 : Ref sig .tc := ⟨.hbm, 81, rfl⟩
abbrev main_call5_v2 : Ref sig .tc := ⟨.hbm, 82, rfl⟩
abbrev main_call5_v3 : Ref sig .tc := ⟨.hbm, 83, rfl⟩
abbrev main_call5_v4 : Ref sig .tc := ⟨.hbm, 84, rfl⟩
abbrev main_call5_v5 : Ref sig .tc := ⟨.hbm, 85, rfl⟩
abbrev main_call5_v6 : Ref sig .tc := ⟨.hbm, 86, rfl⟩
abbrev main_call5_c_1 : Ref sig .tc := ⟨.hbm, 87, rfl⟩
abbrev main_call5_c_2 : Ref sig .tc := ⟨.hbm, 88, rfl⟩
abbrev main_call5_v7 : Ref sig .tc := ⟨.hbm, 89, rfl⟩
abbrev main_call5_v8 : Ref sig .tc := ⟨.hbm, 90, rfl⟩
abbrev main_call5_v9 : Ref sig .tc := ⟨.hbm, 91, rfl⟩
abbrev main_call5_v10 : Ref sig .tc := ⟨.hbm, 92, rfl⟩
abbrev main_call5_v11 : Ref sig .tc := ⟨.hbm, 93, rfl⟩
abbrev main_call5_v12 : Ref sig .tc := ⟨.hbm, 94, rfl⟩
abbrev main_call5_c_3 : Ref sig .tc := ⟨.hbm, 95, rfl⟩
abbrev main_call5_v13 : Ref sig .tc := ⟨.hbm, 96, rfl⟩
abbrev main_call5_v14 : Ref sig .tc := ⟨.hbm, 97, rfl⟩
abbrev main_call5_cst : Ref sig .tc := ⟨.hbm, 98, rfl⟩
abbrev main_call5_v15 : Ref sig .tc := ⟨.hbm, 99, rfl⟩
abbrev main_v20 : Ref sig .tc := ⟨.hbm, 100, rfl⟩
abbrev main_v21 : Ref sig .tc := ⟨.hbm, 101, rfl⟩
abbrev main_call6_c : Ref sig .tc := ⟨.hbm, 102, rfl⟩
abbrev main_call6_v0 : Ref sig .tc := ⟨.hbm, 103, rfl⟩
abbrev main_call6_v1 : Ref sig .tc := ⟨.hbm, 104, rfl⟩
abbrev main_call6_c_0 : Ref sig .tc := ⟨.hbm, 105, rfl⟩
abbrev main_call6_v2 : Ref sig .tc := ⟨.hbm, 106, rfl⟩
abbrev main_call6_v3 : Ref sig .tc := ⟨.hbm, 107, rfl⟩
abbrev main_call6_v4 : Ref sig .tc := ⟨.hbm, 108, rfl⟩
abbrev main_call6_v5 : Ref sig .tc := ⟨.hbm, 109, rfl⟩
abbrev main_call6_v6 : Ref sig .tc := ⟨.hbm, 110, rfl⟩
abbrev main_call6_c_1 : Ref sig .tc := ⟨.hbm, 111, rfl⟩
abbrev main_call6_c_2 : Ref sig .tc := ⟨.hbm, 112, rfl⟩
abbrev main_call6_v7 : Ref sig .tc := ⟨.hbm, 113, rfl⟩
abbrev main_call6_v8 : Ref sig .tc := ⟨.hbm, 114, rfl⟩
abbrev main_call6_v9 : Ref sig .tc := ⟨.hbm, 115, rfl⟩
abbrev main_call6_v10 : Ref sig .tc := ⟨.hbm, 116, rfl⟩
abbrev main_call6_v11 : Ref sig .tc := ⟨.hbm, 117, rfl⟩
abbrev main_call6_v12 : Ref sig .tc := ⟨.hbm, 118, rfl⟩
abbrev main_call6_c_3 : Ref sig .tc := ⟨.hbm, 119, rfl⟩
abbrev main_call6_v13 : Ref sig .tc := ⟨.hbm, 120, rfl⟩
abbrev main_call6_v14 : Ref sig .tc := ⟨.hbm, 121, rfl⟩
abbrev main_call6_cst : Ref sig .tc := ⟨.hbm, 122, rfl⟩
abbrev main_call6_v15 : Ref sig .tc := ⟨.hbm, 123, rfl⟩
abbrev main_v22 : Ref sig .tc := ⟨.hbm, 124, rfl⟩
abbrev main_v23 : Ref sig .tc := ⟨.hbm, 125, rfl⟩
abbrev main_call7_c : Ref sig .tc := ⟨.hbm, 126, rfl⟩
abbrev main_call7_v0 : Ref sig .tc := ⟨.hbm, 127, rfl⟩
abbrev main_call7_v1 : Ref sig .tc := ⟨.hbm, 128, rfl⟩
abbrev main_call7_c_0 : Ref sig .tc := ⟨.hbm, 129, rfl⟩
abbrev main_call7_v2 : Ref sig .tc := ⟨.hbm, 130, rfl⟩
abbrev main_call7_v3 : Ref sig .tc := ⟨.hbm, 131, rfl⟩
abbrev main_call7_v4 : Ref sig .tc := ⟨.hbm, 132, rfl⟩
abbrev main_call7_v5 : Ref sig .tc := ⟨.hbm, 133, rfl⟩
abbrev main_call7_v6 : Ref sig .tc := ⟨.hbm, 134, rfl⟩
abbrev main_call7_c_1 : Ref sig .tc := ⟨.hbm, 135, rfl⟩
abbrev main_call7_c_2 : Ref sig .tc := ⟨.hbm, 136, rfl⟩
abbrev main_call7_v7 : Ref sig .tc := ⟨.hbm, 137, rfl⟩
abbrev main_call7_v8 : Ref sig .tc := ⟨.hbm, 138, rfl⟩
abbrev main_call7_v9 : Ref sig .tc := ⟨.hbm, 139, rfl⟩
abbrev main_call7_v10 : Ref sig .tc := ⟨.hbm, 140, rfl⟩
abbrev main_call7_v11 : Ref sig .tc := ⟨.hbm, 141, rfl⟩
abbrev main_call7_v12 : Ref sig .tc := ⟨.hbm, 142, rfl⟩
abbrev main_call7_c_3 : Ref sig .tc := ⟨.hbm, 143, rfl⟩
abbrev main_call7_v13 : Ref sig .tc := ⟨.hbm, 144, rfl⟩
abbrev main_call7_v14 : Ref sig .tc := ⟨.hbm, 145, rfl⟩
abbrev main_call7_cst : Ref sig .tc := ⟨.hbm, 146, rfl⟩
abbrev main_call7_v15 : Ref sig .tc := ⟨.hbm, 147, rfl⟩
abbrev main_v24 : Ref sig .tc := ⟨.hbm, 148, rfl⟩
abbrev main_v25 : Ref sig .tc := ⟨.hbm, 149, rfl⟩
abbrev main_v26 : Ref sig .tc := ⟨.hbm, 150, rfl⟩
abbrev main_values_4 : Ref sig .tc := ⟨.hbm, 151, rfl⟩
abbrev main_indices_5 : Ref sig .tc := ⟨.hbm, 152, rfl⟩
abbrev main_v27 : Ref sig .tc := ⟨.hbm, 153, rfl⟩
abbrev main_call8_c : Ref sig .tc := ⟨.hbm, 154, rfl⟩
abbrev main_call8_v0 : Ref sig .tc := ⟨.hbm, 155, rfl⟩
abbrev main_call8_v1 : Ref sig .tc := ⟨.hbm, 156, rfl⟩
abbrev main_call8_c_0 : Ref sig .tc := ⟨.hbm, 157, rfl⟩
abbrev main_call8_v2 : Ref sig .tc := ⟨.hbm, 158, rfl⟩
abbrev main_call8_v3 : Ref sig .tc := ⟨.hbm, 159, rfl⟩
abbrev main_call8_v4 : Ref sig .tc := ⟨.hbm, 160, rfl⟩
abbrev main_call8_v5 : Ref sig .tc := ⟨.hbm, 161, rfl⟩
abbrev main_call8_c_1 : Ref sig .tc := ⟨.hbm, 162, rfl⟩
abbrev main_call8_c_2 : Ref sig .tc := ⟨.hbm, 163, rfl⟩
abbrev main_call8_v6 : Ref sig .tc := ⟨.hbm, 164, rfl⟩
abbrev main_call8_v7 : Ref sig .tc := ⟨.hbm, 165, rfl⟩
abbrev main_call8_v8 : Ref sig .tc := ⟨.hbm, 166, rfl⟩
abbrev main_call8_v9 : Ref sig .tc := ⟨.hbm, 167, rfl⟩
abbrev main_call8_v10 : Ref sig .tc := ⟨.hbm, 168, rfl⟩
abbrev main_call8_v11 : Ref sig .tc := ⟨.hbm, 169, rfl⟩
abbrev main_call8_c_3 : Ref sig .tc := ⟨.hbm, 170, rfl⟩
abbrev main_call8_v12 : Ref sig .tc := ⟨.hbm, 171, rfl⟩
abbrev main_call8_v13 : Ref sig .tc := ⟨.hbm, 172, rfl⟩
abbrev main_call8_cst : Ref sig .tc := ⟨.hbm, 173, rfl⟩
abbrev main_call8_v14 : Ref sig .tc := ⟨.hbm, 174, rfl⟩
abbrev main_v28 : Ref sig .tc := ⟨.hbm, 175, rfl⟩
abbrev main_v29 : Ref sig .tc := ⟨.hbm, 176, rfl⟩
abbrev main_call9_c : Ref sig .tc := ⟨.hbm, 177, rfl⟩
abbrev main_call9_v0 : Ref sig .tc := ⟨.hbm, 178, rfl⟩
abbrev main_call9_v1 : Ref sig .tc := ⟨.hbm, 179, rfl⟩
abbrev main_call9_c_0 : Ref sig .tc := ⟨.hbm, 180, rfl⟩
abbrev main_call9_v2 : Ref sig .tc := ⟨.hbm, 181, rfl⟩
abbrev main_call9_v3 : Ref sig .tc := ⟨.hbm, 182, rfl⟩
abbrev main_call9_v4 : Ref sig .tc := ⟨.hbm, 183, rfl⟩
abbrev main_call9_v5 : Ref sig .tc := ⟨.hbm, 184, rfl⟩
abbrev main_call9_c_1 : Ref sig .tc := ⟨.hbm, 185, rfl⟩
abbrev main_call9_c_2 : Ref sig .tc := ⟨.hbm, 186, rfl⟩
abbrev main_call9_v6 : Ref sig .tc := ⟨.hbm, 187, rfl⟩
abbrev main_call9_v7 : Ref sig .tc := ⟨.hbm, 188, rfl⟩
abbrev main_call9_v8 : Ref sig .tc := ⟨.hbm, 189, rfl⟩
abbrev main_call9_v9 : Ref sig .tc := ⟨.hbm, 190, rfl⟩
abbrev main_call9_v10 : Ref sig .tc := ⟨.hbm, 191, rfl⟩
abbrev main_call9_v11 : Ref sig .tc := ⟨.hbm, 192, rfl⟩
abbrev main_call9_c_3 : Ref sig .tc := ⟨.hbm, 193, rfl⟩
abbrev main_call9_v12 : Ref sig .tc := ⟨.hbm, 194, rfl⟩
abbrev main_call9_v13 : Ref sig .tc := ⟨.hbm, 195, rfl⟩
abbrev main_call9_cst : Ref sig .tc := ⟨.hbm, 196, rfl⟩
abbrev main_call9_v14 : Ref sig .tc := ⟨.hbm, 197, rfl⟩
abbrev main_v30 : Ref sig .tc := ⟨.hbm, 198, rfl⟩
abbrev main_v31 : Ref sig .tc := ⟨.hbm, 199, rfl⟩
abbrev main_call10_c : Ref sig .tc := ⟨.hbm, 200, rfl⟩
abbrev main_call10_v0 : Ref sig .tc := ⟨.hbm, 201, rfl⟩
abbrev main_call10_v1 : Ref sig .tc := ⟨.hbm, 202, rfl⟩
abbrev main_call10_c_0 : Ref sig .tc := ⟨.hbm, 203, rfl⟩
abbrev main_call10_v2 : Ref sig .tc := ⟨.hbm, 204, rfl⟩
abbrev main_call10_v3 : Ref sig .tc := ⟨.hbm, 205, rfl⟩
abbrev main_call10_v4 : Ref sig .tc := ⟨.hbm, 206, rfl⟩
abbrev main_call10_v5 : Ref sig .tc := ⟨.hbm, 207, rfl⟩
abbrev main_call10_c_1 : Ref sig .tc := ⟨.hbm, 208, rfl⟩
abbrev main_call10_c_2 : Ref sig .tc := ⟨.hbm, 209, rfl⟩
abbrev main_call10_v6 : Ref sig .tc := ⟨.hbm, 210, rfl⟩
abbrev main_call10_v7 : Ref sig .tc := ⟨.hbm, 211, rfl⟩
abbrev main_call10_v8 : Ref sig .tc := ⟨.hbm, 212, rfl⟩
abbrev main_call10_v9 : Ref sig .tc := ⟨.hbm, 213, rfl⟩
abbrev main_call10_v10 : Ref sig .tc := ⟨.hbm, 214, rfl⟩
abbrev main_call10_v11 : Ref sig .tc := ⟨.hbm, 215, rfl⟩
abbrev main_call10_c_3 : Ref sig .tc := ⟨.hbm, 216, rfl⟩
abbrev main_call10_v12 : Ref sig .tc := ⟨.hbm, 217, rfl⟩
abbrev main_call10_v13 : Ref sig .tc := ⟨.hbm, 218, rfl⟩
abbrev main_call10_cst : Ref sig .tc := ⟨.hbm, 219, rfl⟩
abbrev main_call10_v14 : Ref sig .tc := ⟨.hbm, 220, rfl⟩
abbrev main_v32 : Ref sig .tc := ⟨.hbm, 221, rfl⟩
abbrev main_v33 : Ref sig .tc := ⟨.hbm, 222, rfl⟩
abbrev main_call11_c : Ref sig .tc := ⟨.hbm, 223, rfl⟩
abbrev main_call11_v0 : Ref sig .tc := ⟨.hbm, 224, rfl⟩
abbrev main_call11_v1 : Ref sig .tc := ⟨.hbm, 225, rfl⟩
abbrev main_call11_c_0 : Ref sig .tc := ⟨.hbm, 226, rfl⟩
abbrev main_call11_v2 : Ref sig .tc := ⟨.hbm, 227, rfl⟩
abbrev main_call11_v3 : Ref sig .tc := ⟨.hbm, 228, rfl⟩
abbrev main_call11_v4 : Ref sig .tc := ⟨.hbm, 229, rfl⟩
abbrev main_call11_v5 : Ref sig .tc := ⟨.hbm, 230, rfl⟩
abbrev main_call11_c_1 : Ref sig .tc := ⟨.hbm, 231, rfl⟩
abbrev main_call11_c_2 : Ref sig .tc := ⟨.hbm, 232, rfl⟩
abbrev main_call11_v6 : Ref sig .tc := ⟨.hbm, 233, rfl⟩
abbrev main_call11_v7 : Ref sig .tc := ⟨.hbm, 234, rfl⟩
abbrev main_call11_v8 : Ref sig .tc := ⟨.hbm, 235, rfl⟩
abbrev main_call11_v9 : Ref sig .tc := ⟨.hbm, 236, rfl⟩
abbrev main_call11_v10 : Ref sig .tc := ⟨.hbm, 237, rfl⟩
abbrev main_call11_v11 : Ref sig .tc := ⟨.hbm, 238, rfl⟩
abbrev main_call11_c_3 : Ref sig .tc := ⟨.hbm, 239, rfl⟩
abbrev main_call11_v12 : Ref sig .tc := ⟨.hbm, 240, rfl⟩
abbrev main_call11_v13 : Ref sig .tc := ⟨.hbm, 241, rfl⟩
abbrev main_call11_cst : Ref sig .tc := ⟨.hbm, 242, rfl⟩
abbrev main_call11_v14 : Ref sig .tc := ⟨.hbm, 243, rfl⟩
abbrev main_v34 : Ref sig .tc := ⟨.hbm, 244, rfl⟩
abbrev main_v35 : Ref sig .tc := ⟨.hbm, 245, rfl⟩
abbrev main_v36 : Ref sig .tc := ⟨.hbm, 246, rfl⟩
abbrev main_v37 : Ref sig .tc := ⟨.hbm, 247, rfl⟩
abbrev main_v38 : Ref sig .tc := ⟨.hbm, 248, rfl⟩
abbrev main_v39 : Ref sig .tc := ⟨.hbm, 249, rfl⟩
abbrev main_c_6 : Ref sig .tc := ⟨.hbm, 250, rfl⟩
abbrev main_call12_v0 : Ref sig .tc := ⟨.hbm, 251, rfl⟩
abbrev main_call12_v1 : Ref sig .tc := ⟨.hbm, 252, rfl⟩
abbrev main_call12_v2 : Ref sig .tc := ⟨.hbm, 253, rfl⟩
abbrev main_call12_v3 : Ref sig .tc := ⟨.hbm, 254, rfl⟩
abbrev main_call12_v4 : Ref sig .tc := ⟨.hbm, 255, rfl⟩
abbrev main_call12_v5 : Ref sig .tc := ⟨.hbm, 256, rfl⟩
abbrev main_call12_v6 : Ref sig .tc := ⟨.hbm, 257, rfl⟩
abbrev main_call12_v7 : Ref sig .tc := ⟨.hbm, 258, rfl⟩
abbrev main_call12_v8 : Ref sig .tc := ⟨.hbm, 259, rfl⟩
abbrev main_call12_c : Ref sig .tc := ⟨.hbm, 260, rfl⟩
abbrev main_call12_v9 : Ref sig .tc := ⟨.hbm, 261, rfl⟩
abbrev main_call12_v10 : Ref sig .tc := ⟨.hbm, 262, rfl⟩
abbrev main_call12_v11 : Ref sig .tc := ⟨.hbm, 263, rfl⟩
abbrev main_call12_c_0 : Ref sig .tc := ⟨.hbm, 264, rfl⟩
abbrev main_call12_v12 : Ref sig .tc := ⟨.hbm, 265, rfl⟩
abbrev main_call12_v13 : Ref sig .tc := ⟨.hbm, 266, rfl⟩
abbrev main_v40 : Ref sig .tc := ⟨.hbm, 267, rfl⟩
abbrev main_c_7 : Ref sig .tc := ⟨.hbm, 268, rfl⟩
abbrev main_v41 : Ref sig .tc := ⟨.hbm, 269, rfl⟩
abbrev main_v42 : Ref sig .tc := ⟨.hbm, 270, rfl⟩
abbrev main_v43 : Ref sig .tc := ⟨.hbm, 271, rfl⟩
abbrev main_cst_8 : Ref sig .tc := ⟨.hbm, 272, rfl⟩
abbrev main_v44 : Ref sig .tc := ⟨.hbm, 273, rfl⟩
abbrev main_v45 : Ref sig .tc := ⟨.hbm, 274, rfl⟩
abbrev main_cst_9 : Ref sig .tc := ⟨.hbm, 275, rfl⟩
abbrev main_call13_v0 : Ref sig .tc := ⟨.hbm, 276, rfl⟩
abbrev main_call13_v1 : Ref sig .tc := ⟨.hbm, 277, rfl⟩
abbrev main_v46 : Ref sig .tc := ⟨.hbm, 278, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc1_stg4_0 : Ref sig .tc := ⟨.vmem, 17, rfl⟩
abbrev cc1_stg4_1 : Ref sig .tc := ⟨.vmem, 18, rfl⟩
abbrev cc1_stg5_0 : Ref sig .tc := ⟨.vmem, 19, rfl⟩
abbrev cc1_stg5_1 : Ref sig .tc := ⟨.vmem, 20, rfl⟩
abbrev cc1_scratch0 : Ref sig .tc := ⟨.vmem, 21, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem3_1 : DmaSem sig := 16
abbrev cc1_sem4_0 : DmaSem sig := 17
abbrev cc1_sem4_1 : DmaSem sig := 18
abbrev cc1_sem5_0 : DmaSem sig := 19
abbrev cc1_sem5_1 : DmaSem sig := 20

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S4x15232 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x4x15232 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x81x15232 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x4x15232 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x80x15232 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨2, ![16, 5], ![false, false]⟩

@[reducible] def k1_t1_loop : Scf.Loop 32 :=
  let c0_i32 : BitVec 32 := 0#32
  let c200_i32 : BitVec 32 := 200#32
  let v71 : BitVec 32 := Scalar.addi c0_i32 c200_i32
  let c1_i32 : BitVec 32 := 1#32
  ⟨c0_i32, v71, c1_i32⟩
def k1_off1 (k1_t1 : Fin k1_t1_loop.trips) : Fin 3 → Nat :=
  let c0_i32 : BitVec 32 := 0#32
  let c1_i32 : BitVec 32 := 1#32
  let arg9 : BitVec 32 := Scf.iv c0_i32 c1_i32 k1_t1
  let v86 : Index := Scalar.indexCast arg9
  let c0_32 : Index := 0#32
  let c0_33 : Index := 0#32
  ![v86.toNat, 0, 0]
def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x16x200 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x16x200 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x16x200 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x16x200 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1x16x200 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S1x16x200 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]
-- ==== ReferenceIdeal.lean ====
abbrev S16x4x15130 : Shape := ⟨3, ![16, 4, 15130]⟩
abbrev S16x81x15130 : Shape := ⟨3, ![16, 81, 15130]⟩
abbrev S15130x4 : Shape := ⟨2, ![15130, 4]⟩
abbrev S16x15130x4 : Shape := ⟨3, ![16, 15130, 4]⟩
abbrev S16x15130x81 : Shape := ⟨3, ![16, 15130, 81]⟩
abbrev S1x15130x4 : Shape := ⟨3, ![1, 15130, 4]⟩
abbrev S16x15130x2 : Shape := ⟨3, ![16, 15130, 2]⟩
abbrev S_ : Shape := ⟨0, ![]⟩
abbrev S1x15130x2 : Shape := ⟨3, ![1, 15130, 2]⟩
abbrev S16x15130x1 : Shape := ⟨3, ![16, 15130, 1]⟩
abbrev S16x15130 : Shape := ⟨2, ![16, 15130]⟩
abbrev S16x15130x80 : Shape := ⟨3, ![16, 15130, 80]⟩
abbrev S16x80x15130 : Shape := ⟨3, ![16, 80, 15130]⟩
abbrev S16x80x200 : Shape := ⟨3, ![16, 80, 200]⟩
abbrev S16x1x15130x4 : Shape := ⟨4, ![16, 1, 15130, 4]⟩
abbrev S16x80x200x1 : Shape := ⟨4, ![16, 80, 200, 1]⟩
abbrev S1 : Shape := ⟨1, ![1]⟩
abbrev S1x1x1x1 : Shape := ⟨4, ![1, 1, 1, 1]⟩
abbrev S16x80x200x4 : Shape := ⟨4, ![16, 80, 200, 4]⟩
abbrev S200 : Shape := ⟨1, ![200]⟩
abbrev S16x80x1x4 : Shape := ⟨4, ![16, 80, 1, 4]⟩
abbrev S16x80x1x2 : Shape := ⟨4, ![16, 80, 1, 2]⟩
abbrev S16x80x200x2 : Shape := ⟨4, ![16, 80, 200, 2]⟩
abbrev S16x80x1x1 : Shape := ⟨4, ![16, 80, 1, 1]⟩
abbrev S16x80x1 : Shape := ⟨3, ![16, 80, 1]⟩
abbrev S1x1x200 : Shape := ⟨3, ![1, 1, 200]⟩
abbrev S80 : Shape := ⟨1, ![80]⟩
abbrev S1x80x1 : Shape := ⟨3, ![1, 80, 1]⟩
abbrev S16x16000 : Shape := ⟨2, ![16, 16000]⟩
abbrev S16x16000x4 : Shape := ⟨3, ![16, 16000, 4]⟩
abbrev S16x200 : Shape := ⟨2, ![16, 200]⟩
abbrev S16x200x1 : Shape := ⟨3, ![16, 200, 1]⟩
abbrev S1x1x1 : Shape := ⟨3, ![1, 1, 1]⟩
abbrev S16x200x4 : Shape := ⟨3, ![16, 200, 4]⟩

abbrev nBuf : Space → Nat
  | .hbm => 268
  | .vmem => 0
  | .smem => 0
  | _ => 0

abbrev hbmTy0_0 (i : Nat) : BufTy := match i % 128 with
  | 0 => ⟨S16x4x15130, .f32⟩
  | 1 => ⟨S16x81x15130, .f32⟩
  | 2 => ⟨S15130x4, .f32⟩
  | 3 => ⟨S16x15130x4, .f32⟩
  | 4 => ⟨S16x15130x81, .f32⟩
  | 5 => ⟨S1x15130x4, .f32⟩
  | 6 => ⟨S16x15130x2, .f32⟩
  | 7 => ⟨S_, .f32⟩
  | 8 => ⟨S16x15130x2, .f32⟩
  | 9 => ⟨S16x15130x2, .f32⟩
  | 10 => ⟨S1x15130x2, .f32⟩
  | 11 => ⟨S16x15130x2, .f32⟩
  | 12 => ⟨S16x15130x2, .f32⟩
  | 13 => ⟨S1x15130x2, .f32⟩
  | 14 => ⟨S16x15130x2, .f32⟩
  | 15 => ⟨S16x15130x2, .f32⟩
  | 16 => ⟨S16x15130x2, .f32⟩
  | 17 => ⟨S_, .f32⟩
  | 18 => ⟨S16x15130x2, .f32⟩
  | 19 => ⟨S16x15130x2, .f32⟩
  | 20 => ⟨S16x15130x2, .f32⟩
  | 21 => ⟨S1x15130x2, .f32⟩
  | 22 => ⟨S16x15130x2, .f32⟩
  | 23 => ⟨S16x15130x2, .f32⟩
  | 24 => ⟨S16x15130x1, .f32⟩
  | 25 => ⟨S16x15130, .f32⟩
  | 26 => ⟨S16x15130x1, .f32⟩
  | 27 => ⟨S16x15130, .f32⟩
  | 28 => ⟨S_, .f32⟩
  | 29 => ⟨S16x15130, .f32⟩
  | 30 => ⟨S16x15130, .f32⟩
  | 31 => ⟨S16x15130, .f32⟩
  | 32 => ⟨S16x15130x1, .f32⟩
  | 33 => ⟨S16x15130, .f32⟩
  | 34 => ⟨S16x15130x1, .f32⟩
  | 35 => ⟨S16x15130, .f32⟩
  | 36 => ⟨S_, .f32⟩
  | 37 => ⟨S16x15130, .f32⟩
  | 38 => ⟨S16x15130, .f32⟩
  | 39 => ⟨S16x15130, .f32⟩
  | 40 => ⟨S16x15130x1, .f32⟩
  | 41 => ⟨S16x15130, .f32⟩
  | 42 => ⟨S16x15130x1, .f32⟩
  | 43 => ⟨S16x15130, .f32⟩
  | 44 => ⟨S_, .f32⟩
  | 45 => ⟨S16x15130, .f32⟩
  | 46 => ⟨S16x15130, .f32⟩
  | 47 => ⟨S16x15130, .f32⟩
  | 48 => ⟨S16x15130x1, .f32⟩
  | 49 => ⟨S16x15130, .f32⟩
  | 50 => ⟨S16x15130x1, .f32⟩
  | 51 => ⟨S16x15130, .f32⟩
  | 52 => ⟨S_, .f32⟩
  | 53 => ⟨S16x15130, .f32⟩
  | 54 => ⟨S16x15130, .f32⟩
  | 55 => ⟨S16x15130, .f32⟩
  | 56 => ⟨S16x15130x1, .f32⟩
  | 57 => ⟨S16x15130x1, .f32⟩
  | 58 => ⟨S16x15130x1, .f32⟩
  | 59 => ⟨S16x15130x1, .f32⟩
  | 60 => ⟨S16x15130x4, .f32⟩
  | 61 => ⟨S_, .f32⟩
  | 62 => ⟨S16x15130, .f32⟩
  | 63 => ⟨S_, .f32⟩
  | 64 => ⟨S16x15130, .f32⟩
  | 65 => ⟨S16x15130, .f32⟩
  | 66 => ⟨S16x15130x1, .f32⟩
  | 67 => ⟨S16x15130x81, .f32⟩
  | 68 => ⟨S16x15130x81, .f32⟩
  | 69 => ⟨S16x15130x81, .f32⟩
  | 70 => ⟨S_, .f32⟩
  | 71 => ⟨S16x15130, .f32⟩
  | 72 => ⟨S16x15130x1, .f32⟩
  | 73 => ⟨S16x15130x81, .f32⟩
  | 74 => ⟨S16x15130x81, .f32⟩
  | 75 => ⟨S16x15130x80, .f32⟩
  | 76 => ⟨S16x80x15130, .f32⟩
  | 77 => ⟨S_, .f32⟩
  | 78 => ⟨S16x80x15130, .f32⟩
  | 79 => ⟨S16x80x15130, .i1⟩
  | 80 => ⟨S_, .f32⟩
  | 81 => ⟨S_, .f32⟩
  | 82 => ⟨S16x80x15130, .f32⟩
  | 83 => ⟨S16x80x15130, .f32⟩
  | 84 => ⟨S16x80x200, .f32⟩
  | 85 => ⟨S16x80x200, .i32⟩
  | 86 => ⟨S16x1x15130x4, .f32⟩
  | 87 => ⟨S16x80x200x1, .i32⟩
  | 88 => ⟨S_, .i32⟩
  | 89 => ⟨S16x80x200x1, .i32⟩
  | 90 => ⟨S16x80x200x1, .i1⟩
  | 91 => ⟨S_, .i32⟩
  | 92 => ⟨S16x80x200x1, .i32⟩
  | 93 => ⟨S16x80x200x1, .i32⟩
  | 94 => ⟨S16x80x200x1, .i32⟩
  | 95 => ⟨S16x15130x4, .f32⟩
  | 96 => ⟨S1, .i32⟩
  | 97 => ⟨S_, .i32⟩
  | 98 => ⟨S16x80x200x1, .i32⟩
  | 99 => ⟨S16x80x200x1, .i1⟩
  | 100 => ⟨S1x1x1x1, .i32⟩
  | 101 => ⟨S16x80x200x1, .i32⟩
  | 102 => ⟨S16x80x200x1, .i1⟩
  | 103 => ⟨S16x80x200x1, .i1⟩
  | 104 => ⟨S_, .i1⟩
  | 105 => ⟨S16x80x200, .i1⟩
  | 106 => ⟨S16x80x200x4, .f32⟩
  | 107 => ⟨S16x80x200x4, .i1⟩
  | 108 => ⟨S_, .f32⟩
  | 109 => ⟨S16x80x200x4, .f32⟩
  | 110 => ⟨S16x80x200x4, .f32⟩
  | 111 => ⟨S_, .f32⟩
  | 112 => ⟨S16x80x200, .f32⟩
  | 113 => ⟨S16x80x200, .i1⟩
  | 114 => ⟨S200, .i32⟩
  | 115 => ⟨S_, .i32⟩
  | 116 => ⟨S_, .i32⟩
  | 117 => ⟨S16x80x200x4, .f32⟩
  | 118 => ⟨S200, .i32⟩
  | 119 => ⟨S_, .i32⟩
  | 120 => ⟨S_, .i32⟩
  | 121 => ⟨S16x80x200, .i1⟩
  | 122 => ⟨S_, .i32⟩
  | 123 => ⟨S_, .i1⟩
  | 124 => ⟨S_, .i32⟩
  | 125 => ⟨S_, .i32⟩
  | 126 => ⟨S_, .i32⟩
  | 127 => ⟨S_, .i1⟩
  | _ => ⟨S16x4x15130, .f32⟩

abbrev hbmTy0_1 (i : Nat) : BufTy := match i % 128 with
  | 0 => ⟨S_, .i32⟩
  | 1 => ⟨S_, .i32⟩
  | 2 => ⟨S_, .i32⟩
  | 3 => ⟨S_, .i32⟩
  | 4 => ⟨S_, .i32⟩
  | 5 => ⟨S_, .i32⟩
  | 6 => ⟨S_, .i32⟩
  | 7 => ⟨S16x80x1x4, .f32⟩
  | 8 => ⟨S16x80x1x2, .f32⟩
  | 9 => ⟨S16x80x200x2, .f32⟩
  | 10 => ⟨S16x80x200x2, .f32⟩
  | 11 => ⟨S16x80x200x2, .f32⟩
  | 12 => ⟨S16x80x1x2, .f32⟩
  | 13 => ⟨S16x80x200x2, .f32⟩
  | 14 => ⟨S16x80x200x2, .f32⟩
  | 15 => ⟨S16x80x200x2, .f32⟩
  | 16 => ⟨S16x80x200x2, .f32⟩
  | 17 => ⟨S_, .f32⟩
  | 18 => ⟨S16x80x200x2, .f32⟩
  | 19 => ⟨S16x80x200x2, .f32⟩
  | 20 => ⟨S16x80x200x1, .f32⟩
  | 21 => ⟨S16x80x200, .f32⟩
  | 22 => ⟨S16x80x200x1, .f32⟩
  | 23 => ⟨S16x80x200, .f32⟩
  | 24 => ⟨S16x80x200, .f32⟩
  | 25 => ⟨S16x80x1x1, .f32⟩
  | 26 => ⟨S16x80x1, .f32⟩
  | 27 => ⟨S16x80x1x1, .f32⟩
  | 28 => ⟨S16x80x1, .f32⟩
  | 29 => ⟨S16x80x1, .f32⟩
  | 30 => ⟨S16x80x1x1, .f32⟩
  | 31 => ⟨S16x80x1, .f32⟩
  | 32 => ⟨S16x80x1x1, .f32⟩
  | 33 => ⟨S16x80x1, .f32⟩
  | 34 => ⟨S16x80x1, .f32⟩
  | 35 => ⟨S16x80x1, .f32⟩
  | 36 => ⟨S16x80x200x2, .f32⟩
  | 37 => ⟨S16x80x200x2, .f32⟩
  | 38 => ⟨S16x80x200x2, .f32⟩
  | 39 => ⟨S16x80x200x1, .f32⟩
  | 40 => ⟨S16x80x200, .f32⟩
  | 41 => ⟨S16x80x200x1, .f32⟩
  | 42 => ⟨S16x80x200, .f32⟩
  | 43 => ⟨S16x80x200, .f32⟩
  | 44 => ⟨S16x80x200, .f32⟩
  | 45 => ⟨S16x80x200, .f32⟩
  | 46 => ⟨S16x80x200, .f32⟩
  | 47 => ⟨S16x80x200, .f32⟩
  | 48 => ⟨S_, .f32⟩
  | 49 => ⟨S16x80x200, .f32⟩
  | 50 => ⟨S16x80x200, .i1⟩
  | 51 => ⟨S_, .i32⟩
  | 52 => ⟨S200, .i32⟩
  | 53 => ⟨S200, .i1⟩
  | 54 => ⟨S1x1x200, .i1⟩
  | 55 => ⟨S16x80x200, .i1⟩
  | 56 => ⟨S16x80x200, .i1⟩
  | 57 => ⟨S_, .i32⟩
  | 58 => ⟨S_, .i1⟩
  | 59 => ⟨S_, .i32⟩
  | 60 => ⟨S_, .i32⟩
  | 61 => ⟨S_, .i32⟩
  | 62 => ⟨S_, .i32⟩
  | 63 => ⟨S_, .i32⟩
  | 64 => ⟨S_, .i32⟩
  | 65 => ⟨S16x80x1, .i1⟩
  | 66 => ⟨S16x80x200, .i1⟩
  | 67 => ⟨S16x80x200, .i1⟩
  | 68 => ⟨S16x80x200, .i1⟩
  | 69 => ⟨S16x80x200, .i1⟩
  | 70 => ⟨S_, .i32⟩
  | 71 => ⟨S_, .i32⟩
  | 72 => ⟨S_, .f32⟩
  | 73 => ⟨S_, .f32⟩
  | 74 => ⟨S16x80x200, .f32⟩
  | 75 => ⟨S16x80x200, .f32⟩
  | 76 => ⟨S80, .i32⟩
  | 77 => ⟨S_, .i32⟩
  | 78 => ⟨S80, .i32⟩
  | 79 => ⟨S80, .i32⟩
  | 80 => ⟨S1x80x1, .i32⟩
  | 81 => ⟨S16x80x200, .i32⟩
  | 82 => ⟨S16x16000, .f32⟩
  | 83 => ⟨S16x16000x4, .f32⟩
  | 84 => ⟨S16x16000, .i32⟩
  | 85 => ⟨S16x200, .f32⟩
  | 86 => ⟨S16x200, .i32⟩
  | 87 => ⟨S16x200x1, .i32⟩
  | 88 => ⟨S_, .i32⟩
  | 89 => ⟨S16x200x1, .i32⟩
  | 90 => ⟨S16x200x1, .i1⟩
  | 91 => ⟨S_, .i32⟩
  | 92 => ⟨S16x200x1, .i32⟩
  | 93 => ⟨S16x200x1, .i32⟩
  | 94 => ⟨S16x200x1, .i32⟩
  | 95 => ⟨S1, .i32⟩
  | 96 => ⟨S_, .i32⟩
  | 97 => ⟨S16x200x1, .i32⟩
  | 98 => ⟨S16x200x1, .i1⟩
  | 99 => ⟨S1x1x1, .i32⟩
  | 100 => ⟨S16x200x1, .i32⟩
  | 101 => ⟨S16x200x1, .i1⟩
  | 102 => ⟨S16x200x1, .i1⟩
  | 103 => ⟨S_, .i1⟩
  | 104 => ⟨S16x200, .i1⟩
  | 105 => ⟨S16x200x4, .f32⟩
  | 106 => ⟨S16x200x4, .i1⟩
  | 107 => ⟨S_, .f32⟩
  | 108 => ⟨S16x200x4, .f32⟩
  | 109 => ⟨S16x200x4, .f32⟩
  | 110 => ⟨S_, .i32⟩
  | 111 => ⟨S16x200, .i32⟩
  | 112 => ⟨S16x200, .i1⟩
  | 113 => ⟨S_, .i32⟩
  | 114 => ⟨S16x200, .i32⟩
  | 115 => ⟨S16x200, .i32⟩
  | 116 => ⟨S16x200, .i32⟩
  | 117 => ⟨S16x200x1, .i32⟩
  | 118 => ⟨S1, .i32⟩
  | 119 => ⟨S_, .i32⟩
  | 120 => ⟨S16x200x1, .i32⟩
  | 121 => ⟨S16x200x1, .i1⟩
  | 122 => ⟨S1x1x1, .i32⟩
  | 123 => ⟨S16x200x1, .i32⟩
  | 124 => ⟨S16x200x1, .i1⟩
  | 125 => ⟨S16x200x1, .i1⟩
  | 126 => ⟨S_, .i1⟩
  | 127 => ⟨S16x200, .i1⟩
  | _ => ⟨S16x4x15130, .f32⟩

abbrev hbmTy0_2 (i : Nat) : BufTy := match i % 128 with
  | 0 => ⟨S16x200, .i32⟩
  | 1 => ⟨S_, .i32⟩
  | 2 => ⟨S16x200, .i32⟩
  | 3 => ⟨S16x200, .i32⟩
  | 4 => ⟨S16x200, .f32⟩
  | 5 => ⟨S_, .f32⟩
  | 6 => ⟨S16x200, .f32⟩
  | 7 => ⟨S16x200, .i1⟩
  | 8 => ⟨S_, .f32⟩
  | 9 => ⟨S_, .f32⟩
  | 10 => ⟨S16x200, .f32⟩
  | 11 => ⟨S16x200, .f32⟩
  | _ => ⟨S16x4x15130, .f32⟩

abbrev hbmTy (i : Nat) : BufTy := match i / 128 with
  | 0 => hbmTy0_0 i
  | 1 => hbmTy0_1 i
  | 2 => hbmTy0_2 i
  | _ => ⟨S16x4x15130, .f32⟩

abbrev bufTy : (tb : Table) → Fin (tcTables nBuf tb) → BufTy
  | .hbm, ⟨i, _⟩ => hbmTy i
  | _, _ => ⟨S16x4x15130, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst_0 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_cst_1 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_cst_2 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_cst_3 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_cst_4 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_cst_5 : Ref sig .tc := ⟨.hbm, 61, rfl⟩
abbrev main_v52 : Ref sig .tc := ⟨.hbm, 62, rfl⟩
abbrev main_cst_6 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_cst_7 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_cst_8 : Ref sig .tc := ⟨.hbm, 77, rfl⟩
abbrev main_v65 : Ref sig .tc := ⟨.hbm, 78, rfl⟩
abbrev main_v66 : Ref sig .tc := ⟨.hbm, 79, rfl⟩
abbrev main_cst_9 : Ref sig .tc := ⟨.hbm, 80, rfl⟩
abbrev main_call0_v0 : Ref sig .tc := ⟨.hbm, 81, rfl⟩
abbrev main_call0_v1 : Ref sig .tc := ⟨.hbm, 82, rfl⟩
abbrev main_v67 : Ref sig .tc := ⟨.hbm, 83, rfl⟩
abbrev main_values : Ref sig .tc := ⟨.hbm, 84, rfl⟩
abbrev main_indices : Ref sig .tc := ⟨.hbm, 85, rfl⟩
abbrev main_v68 : Ref sig .tc := ⟨.hbm, 86, rfl⟩
abbrev main_v69 : Ref sig .tc := ⟨.hbm, 87, rfl⟩
abbrev main_call1_c : Ref sig .tc := ⟨.hbm, 88, rfl⟩
abbrev main_call1_v0 : Ref sig .tc := ⟨.hbm, 89, rfl⟩
abbrev main_call1_v1 : Ref sig .tc := ⟨.hbm, 90, rfl⟩
abbrev main_call1_c_0 : Ref sig .tc := ⟨.hbm, 91, rfl⟩
abbrev main_call1_v2 : Ref sig .tc := ⟨.hbm, 92, rfl⟩
abbrev main_call1_v3 : Ref sig .tc := ⟨.hbm, 93, rfl⟩
abbrev main_call1_v4 : Ref sig .tc := ⟨.hbm, 94, rfl⟩
abbrev main_call1_v5 : Ref sig .tc := ⟨.hbm, 95, rfl⟩
abbrev main_call1_c_1 : Ref sig .tc := ⟨.hbm, 96, rfl⟩
abbrev main_call1_c_2 : Ref sig .tc := ⟨.hbm, 97, rfl⟩
abbrev main_call1_v6 : Ref sig .tc := ⟨.hbm, 98, rfl⟩
abbrev main_call1_v7 : Ref sig .tc := ⟨.hbm, 99, rfl⟩
abbrev main_call1_v8 : Ref sig .tc := ⟨.hbm, 100, rfl⟩
abbrev main_call1_v9 : Ref sig .tc := ⟨.hbm, 101, rfl⟩
abbrev main_call1_v10 : Ref sig .tc := ⟨.hbm, 102, rfl⟩
abbrev main_call1_v11 : Ref sig .tc := ⟨.hbm, 103, rfl⟩
abbrev main_call1_c_3 : Ref sig .tc := ⟨.hbm, 104, rfl⟩
abbrev main_call1_v12 : Ref sig .tc := ⟨.hbm, 105, rfl⟩
abbrev main_call1_v13 : Ref sig .tc := ⟨.hbm, 106, rfl⟩
abbrev main_call1_v14 : Ref sig .tc := ⟨.hbm, 107, rfl⟩
abbrev main_call1_cst : Ref sig .tc := ⟨.hbm, 108, rfl⟩
abbrev main_call1_v15 : Ref sig .tc := ⟨.hbm, 109, rfl⟩
abbrev main_v70 : Ref sig .tc := ⟨.hbm, 110, rfl⟩
abbrev main_cst_10 : Ref sig .tc := ⟨.hbm, 111, rfl⟩
abbrev main_v71 : Ref sig .tc := ⟨.hbm, 112, rfl⟩
abbrev main_v72 : Ref sig .tc := ⟨.hbm, 113, rfl⟩
abbrev main_v73 : Ref sig .tc := ⟨.hbm, 114, rfl⟩
abbrev main_c : Ref sig .tc := ⟨.hbm, 115, rfl⟩
abbrev main_c_11 : Ref sig .tc := ⟨.hbm, 116, rfl⟩
abbrev main_v74_0 : Ref sig .tc := ⟨.hbm, 117, rfl⟩
abbrev main_v74_1 : Ref sig .tc := ⟨.hbm, 118, rfl⟩
abbrev main_v74_2 : Ref sig .tc := ⟨.hbm, 119, rfl⟩
abbrev main_v74_3 : Ref sig .tc := ⟨.hbm, 120, rfl⟩
abbrev main_v74_4 : Ref sig .tc := ⟨.hbm, 121, rfl⟩
abbrev main_while0c_c_22 : Ref sig .tc := ⟨.hbm, 122, rfl⟩
abbrev main_while0c_v91 : Ref sig .tc := ⟨.hbm, 123, rfl⟩
abbrev main_while0b_c_22 : Ref sig .tc := ⟨.hbm, 124, rfl⟩
abbrev main_while0b_v91 : Ref sig .tc := ⟨.hbm, 125, rfl⟩
abbrev main_while0b_c_23 : Ref sig .tc := ⟨.hbm, 126, rfl⟩
abbrev main_while0b_v92 : Ref sig .tc := ⟨.hbm, 127, rfl⟩
abbrev main_while0b_v93 : Ref sig .tc := ⟨.hbm, 128, rfl⟩
abbrev main_while0b_c_24 : Ref sig .tc := ⟨.hbm, 129, rfl⟩
abbrev main_while0b_v94 : Ref sig .tc := ⟨.hbm, 130, rfl⟩
abbrev main_while0b_v95 : Ref sig .tc := ⟨.hbm, 131, rfl⟩
abbrev main_while0b_c_25 : Ref sig .tc := ⟨.hbm, 132, rfl⟩
abbrev main_while0b_c_26 : Ref sig .tc := ⟨.hbm, 133, rfl⟩
abbrev main_while0b_c_27 : Ref sig .tc := ⟨.hbm, 134, rfl⟩
abbrev main_while0b_v96 : Ref sig .tc := ⟨.hbm, 135, rfl⟩
abbrev main_while0b_v97 : Ref sig .tc := ⟨.hbm, 136, rfl⟩
abbrev main_while0b_v98 : Ref sig .tc := ⟨.hbm, 137, rfl⟩
abbrev main_while0b_v99 : Ref sig .tc := ⟨.hbm, 138, rfl⟩
abbrev main_while0b_v100 : Ref sig .tc := ⟨.hbm, 139, rfl⟩
abbrev main_while0b_v101 : Ref sig .tc := ⟨.hbm, 140, rfl⟩
abbrev main_while0b_v102 : Ref sig .tc := ⟨.hbm, 141, rfl⟩
abbrev main_while0b_v103 : Ref sig .tc := ⟨.hbm, 142, rfl⟩
abbrev main_while0b_v104 : Ref sig .tc := ⟨.hbm, 143, rfl⟩
abbrev main_while0b_v105 : Ref sig .tc := ⟨.hbm, 144, rfl⟩
abbrev main_while0b_cst_28 : Ref sig .tc := ⟨.hbm, 145, rfl⟩
abbrev main_while0b_v106 : Ref sig .tc := ⟨.hbm, 146, rfl⟩
abbrev main_while0b_v107 : Ref sig .tc := ⟨.hbm, 147, rfl⟩
abbrev main_while0b_v108 : Ref sig .tc := ⟨.hbm, 148, rfl⟩
abbrev main_while0b_v109 : Ref sig .tc := ⟨.hbm, 149, rfl⟩
abbrev main_while0b_v110 : Ref sig .tc := ⟨.hbm, 150, rfl⟩
abbrev main_while0b_v111 : Ref sig .tc := ⟨.hbm, 151, rfl⟩
abbrev main_while0b_v112 : Ref sig .tc := ⟨.hbm, 152, rfl⟩
abbrev main_while0b_v113 : Ref sig .tc := ⟨.hbm, 153, rfl⟩
abbrev main_while0b_v114 : Ref sig .tc := ⟨.hbm, 154, rfl⟩
abbrev main_while0b_v115 : Ref sig .tc := ⟨.hbm, 155, rfl⟩
abbrev main_while0b_v116 : Ref sig .tc := ⟨.hbm, 156, rfl⟩
abbrev main_while0b_v117 : Ref sig .tc := ⟨.hbm, 157, rfl⟩
abbrev main_while0b_v118 : Ref sig .tc := ⟨.hbm, 158, rfl⟩
abbrev main_while0b_v119 : Ref sig .tc := ⟨.hbm, 159, rfl⟩
abbrev main_while0b_v120 : Ref sig .tc := ⟨.hbm, 160, rfl⟩
abbrev main_while0b_v121 : Ref sig .tc := ⟨.hbm, 161, rfl⟩
abbrev main_while0b_v122 : Ref sig .tc := ⟨.hbm, 162, rfl⟩
abbrev main_while0b_v123 : Ref sig .tc := ⟨.hbm, 163, rfl⟩
abbrev main_while0b_v124 : Ref sig .tc := ⟨.hbm, 164, rfl⟩
abbrev main_while0b_v125 : Ref sig .tc := ⟨.hbm, 165, rfl⟩
abbrev main_while0b_v126 : Ref sig .tc := ⟨.hbm, 166, rfl⟩
abbrev main_while0b_v127 : Ref sig .tc := ⟨.hbm, 167, rfl⟩
abbrev main_while0b_v128 : Ref sig .tc := ⟨.hbm, 168, rfl⟩
abbrev main_while0b_v129 : Ref sig .tc := ⟨.hbm, 169, rfl⟩
abbrev main_while0b_v130 : Ref sig .tc := ⟨.hbm, 170, rfl⟩
abbrev main_while0b_v131 : Ref sig .tc := ⟨.hbm, 171, rfl⟩
abbrev main_while0b_v132 : Ref sig .tc := ⟨.hbm, 172, rfl⟩
abbrev main_while0b_v133 : Ref sig .tc := ⟨.hbm, 173, rfl⟩
abbrev main_while0b_v134 : Ref sig .tc := ⟨.hbm, 174, rfl⟩
abbrev main_while0b_v135 : Ref sig .tc := ⟨.hbm, 175, rfl⟩
abbrev main_while0b_cst_29 : Ref sig .tc := ⟨.hbm, 176, rfl⟩
abbrev main_while0b_v136 : Ref sig .tc := ⟨.hbm, 177, rfl⟩
abbrev main_while0b_v137 : Ref sig .tc := ⟨.hbm, 178, rfl⟩
abbrev main_while0b_v138 : Ref sig .tc := ⟨.hbm, 179, rfl⟩
abbrev main_while0b_v139 : Ref sig .tc := ⟨.hbm, 180, rfl⟩
abbrev main_while0b_v140 : Ref sig .tc := ⟨.hbm, 181, rfl⟩
abbrev main_while0b_v141 : Ref sig .tc := ⟨.hbm, 182, rfl⟩
abbrev main_while0b_v142 : Ref sig .tc := ⟨.hbm, 183, rfl⟩
abbrev main_while0b_v143 : Ref sig .tc := ⟨.hbm, 184, rfl⟩
abbrev main_while0b_c_30 : Ref sig .tc := ⟨.hbm, 185, rfl⟩
abbrev main_while0b_v144 : Ref sig .tc := ⟨.hbm, 186, rfl⟩
abbrev main_while0b_v145 : Ref sig .tc := ⟨.hbm, 187, rfl⟩
abbrev main_while0b_c_31 : Ref sig .tc := ⟨.hbm, 188, rfl⟩
abbrev main_while0b_v146 : Ref sig .tc := ⟨.hbm, 189, rfl⟩
abbrev main_while0b_v147 : Ref sig .tc := ⟨.hbm, 190, rfl⟩
abbrev main_while0b_c_32 : Ref sig .tc := ⟨.hbm, 191, rfl⟩
abbrev main_while0b_c_33 : Ref sig .tc := ⟨.hbm, 192, rfl⟩
abbrev main_while0b_v148 : Ref sig .tc := ⟨.hbm, 193, rfl⟩
abbrev main_while0b_v149 : Ref sig .tc := ⟨.hbm, 194, rfl⟩
abbrev main_while0b_v150 : Ref sig .tc := ⟨.hbm, 195, rfl⟩
abbrev main_while0b_v151 : Ref sig .tc := ⟨.hbm, 196, rfl⟩
abbrev main_while0b_v152 : Ref sig .tc := ⟨.hbm, 197, rfl⟩
abbrev main_while0b_c_34 : Ref sig .tc := ⟨.hbm, 198, rfl⟩
abbrev main_while0b_v153 : Ref sig .tc := ⟨.hbm, 199, rfl⟩
abbrev main_cst_12 : Ref sig .tc := ⟨.hbm, 200, rfl⟩
abbrev main_call2_v0 : Ref sig .tc := ⟨.hbm, 201, rfl⟩
abbrev main_call2_v1 : Ref sig .tc := ⟨.hbm, 202, rfl⟩
abbrev main_v75 : Ref sig .tc := ⟨.hbm, 203, rfl⟩
abbrev main_v76 : Ref sig .tc := ⟨.hbm, 204, rfl⟩
abbrev main_c_13 : Ref sig .tc := ⟨.hbm, 205, rfl⟩
abbrev main_v77 : Ref sig .tc := ⟨.hbm, 206, rfl⟩
abbrev main_v78 : Ref sig .tc := ⟨.hbm, 207, rfl⟩
abbrev main_v79 : Ref sig .tc := ⟨.hbm, 208, rfl⟩
abbrev main_v80 : Ref sig .tc := ⟨.hbm, 209, rfl⟩
abbrev main_v81 : Ref sig .tc := ⟨.hbm, 210, rfl⟩
abbrev main_v82 : Ref sig .tc := ⟨.hbm, 211, rfl⟩
abbrev main_v83 : Ref sig .tc := ⟨.hbm, 212, rfl⟩
abbrev main_values_14 : Ref sig .tc := ⟨.hbm, 213, rfl⟩
abbrev main_indices_15 : Ref sig .tc := ⟨.hbm, 214, rfl⟩
abbrev main_v84 : Ref sig .tc := ⟨.hbm, 215, rfl⟩
abbrev main_call3_c : Ref sig .tc := ⟨.hbm, 216, rfl⟩
abbrev main_call3_v0 : Ref sig .tc := ⟨.hbm, 217, rfl⟩
abbrev main_call3_v1 : Ref sig .tc := ⟨.hbm, 218, rfl⟩
abbrev main_call3_c_0 : Ref sig .tc := ⟨.hbm, 219, rfl⟩
abbrev main_call3_v2 : Ref sig .tc := ⟨.hbm, 220, rfl⟩
abbrev main_call3_v3 : Ref sig .tc := ⟨.hbm, 221, rfl⟩
abbrev main_call3_v4 : Ref sig .tc := ⟨.hbm, 222, rfl⟩
abbrev main_call3_c_1 : Ref sig .tc := ⟨.hbm, 223, rfl⟩
abbrev main_call3_c_2 : Ref sig .tc := ⟨.hbm, 224, rfl⟩
abbrev main_call3_v5 : Ref sig .tc := ⟨.hbm, 225, rfl⟩
abbrev main_call3_v6 : Ref sig .tc := ⟨.hbm, 226, rfl⟩
abbrev main_call3_v7 : Ref sig .tc := ⟨.hbm, 227, rfl⟩
abbrev main_call3_v8 : Ref sig .tc := ⟨.hbm, 228, rfl⟩
abbrev main_call3_v9 : Ref sig .tc := ⟨.hbm, 229, rfl⟩
abbrev main_call3_v10 : Ref sig .tc := ⟨.hbm, 230, rfl⟩
abbrev main_call3_c_3 : Ref sig .tc := ⟨.hbm, 231, rfl⟩
abbrev main_call3_v11 : Ref sig .tc := ⟨.hbm, 232, rfl⟩
abbrev main_call3_v12 : Ref sig .tc := ⟨.hbm, 233, rfl⟩
abbrev main_call3_v13 : Ref sig .tc := ⟨.hbm, 234, rfl⟩
abbrev main_call3_cst : Ref sig .tc := ⟨.hbm, 235, rfl⟩
abbrev main_call3_v14 : Ref sig .tc := ⟨.hbm, 236, rfl⟩
abbrev main_v85 : Ref sig .tc := ⟨.hbm, 237, rfl⟩
abbrev main_call4_c : Ref sig .tc := ⟨.hbm, 238, rfl⟩
abbrev main_call4_v0 : Ref sig .tc := ⟨.hbm, 239, rfl⟩
abbrev main_call4_v1 : Ref sig .tc := ⟨.hbm, 240, rfl⟩
abbrev main_call4_c_0 : Ref sig .tc := ⟨.hbm, 241, rfl⟩
abbrev main_call4_v2 : Ref sig .tc := ⟨.hbm, 242, rfl⟩
abbrev main_call4_v3 : Ref sig .tc := ⟨.hbm, 243, rfl⟩
abbrev main_call4_v4 : Ref sig .tc := ⟨.hbm, 244, rfl⟩
abbrev main_call4_v5 : Ref sig .tc := ⟨.hbm, 245, rfl⟩
abbrev main_call4_c_1 : Ref sig .tc := ⟨.hbm, 246, rfl⟩
abbrev main_call4_c_2 : Ref sig .tc := ⟨.hbm, 247, rfl⟩
abbrev main_call4_v6 : Ref sig .tc := ⟨.hbm, 248, rfl⟩
abbrev main_call4_v7 : Ref sig .tc := ⟨.hbm, 249, rfl⟩
abbrev main_call4_v8 : Ref sig .tc := ⟨.hbm, 250, rfl⟩
abbrev main_call4_v9 : Ref sig .tc := ⟨.hbm, 251, rfl⟩
abbrev main_call4_v10 : Ref sig .tc := ⟨.hbm, 252, rfl⟩
abbrev main_call4_v11 : Ref sig .tc := ⟨.hbm, 253, rfl⟩
abbrev main_call4_c_3 : Ref sig .tc := ⟨.hbm, 254, rfl⟩
abbrev main_call4_v12 : Ref sig .tc := ⟨.hbm, 255, rfl⟩
abbrev main_call4_v13 : Ref sig .tc := ⟨.hbm, 256, rfl⟩
abbrev main_call4_c_4 : Ref sig .tc := ⟨.hbm, 257, rfl⟩
abbrev main_call4_v14 : Ref sig .tc := ⟨.hbm, 258, rfl⟩
abbrev main_v86 : Ref sig .tc := ⟨.hbm, 259, rfl⟩
abbrev main_v87 : Ref sig .tc := ⟨.hbm, 260, rfl⟩
abbrev main_cst_16 : Ref sig .tc := ⟨.hbm, 261, rfl⟩
abbrev main_v88 : Ref sig .tc := ⟨.hbm, 262, rfl⟩
abbrev main_v89 : Ref sig .tc := ⟨.hbm, 263, rfl⟩
abbrev main_cst_17 : Ref sig .tc := ⟨.hbm, 264, rfl⟩
abbrev main_call5_v0 : Ref sig .tc := ⟨.hbm, 265, rfl⟩
abbrev main_call5_v1 : Ref sig .tc := ⟨.hbm, 266, rfl⟩
abbrev main_v90 : Ref sig .tc := ⟨.hbm, 267, rfl⟩

abbrev nD : Nat := 1
abbrev τ : Topo := Topo.v7x

variable {F : FTy → Type} [FloatOps F]

abbrev main_while0_count : Scf.Loop 32 := ⟨0#32, 200#32, 1#32⟩
-- ==== Proof.RefFrame.lean ====
/- The reference's run with its arguments unchanged. The reference is host operations round one counted loop; the
   generated `run_fold` says what every buffer holds at the end, and no operation writes an argument. -/
module

public import proofs.«01_k».proof.Defs
public import proofs.«01_k».proof.Proof.Gen.ReferenceIdeal
public import proofs.«01_k».proof.Proof.Gen.ReferenceIdeal.Run
public import Idealize.ShloMosaic.Lib.Quiescent

@[expose] public section

set_option maxRecDepth 8192

noncomputable section

namespace Cert.ReferenceIdeal.Value

open Idealize.ShloMosaic Idealize.ShloMosaic.TcCoe Idealize.ShloMosaic.StableHlo Idealize.SL.Sem
open Cert.ReferenceIdeal.Gen

variable (m : (ℓ : Loc nD τ sig) → Buf (Elt Ideal) ℓ)

/-- A buffer that no operation of the loop writes holds before every trip what it held at the loop's entry. -/
theorem atK_keep (c : Dev nD) (r : Ref sig .tc) (hc : r ∉ condOps_W) (hb : r ∉ while0Ops0_W) :
    ∀ k, atK (F := Ideal) m k c (Proc.devRef .tc r) = entryContents preI m c (Proc.devRef .tc r)
  | 0 => rfl
  | k + 1 => by
    show after while0Ops0 (after condOps (atK m k c)) _ = _
    exact (after_of_writes_sub while0Ops0 _ while0Ops0_writes hb).trans
      ((after_of_writes_sub condOps _ condOps_writes hc).trans (atK_keep c r hc hb k))

/-- The buffers after the loop: what @main's last stretches start from. -/
def exitV (c : Dev nD) : Valuation τ sig (Elt Ideal) := after condOps (atK (F := Ideal) m 200 c)

theorem exitV_keep (c : Dev nD) (r : Ref sig .tc) (hc : r ∉ condOps_W) (hb : r ∉ while0Ops0_W) :
    exitV m c (Proc.devRef .tc r) = entryContents (F := Ideal) preI m c (Proc.devRef .tc r) :=
  (after_of_writes_sub condOps _ condOps_writes hc).trans (atK_keep m c r hc hb 200)

/-- A buffer that no operation of @main before the loop writes holds at the loop's entry what it held at the launch. -/
theorem entry_keep (c : Dev nD) (r : Ref sig .tc) (h0 : r ∉ hostOps0_W) (h1 : r ∉ hostOps0_1_W) (h2 : r ∉ hostOps0_2_W)
    (h3 : r ∉ hostOps0_3_W) (h4 : r ∉ hostOps0_4_W) :
    entryContents (F := Ideal) preI m c (Proc.devRef .tc r) = m (c, Proc.devRef .tc r) := by
  refine (after_of_writes_sub hostOps0_4 _ hostOps0_4_writes h4).trans ?_
  refine (after_of_writes_sub hostOps0_3 _ hostOps0_3_writes h3).trans ?_
  refine (after_of_writes_sub hostOps0_2 _ hostOps0_2_writes h2).trans ?_
  refine (after_of_writes_sub hostOps0_1 _ hostOps0_1_writes h1).trans ?_
  exact after_of_writes_sub hostOps0 _ hostOps0_writes h0

/-- The buffers at the end from those after the loop, `V`: the stretches of @main after the loop. -/
def postV (V : Valuation τ sig (Elt Ideal)) : Valuation τ sig (Elt Ideal) :=
  after hostOps0_11 (after hostOps0_10 (after hostOps0_9 (after hostOps0_8 (after hostOps0_7 (after hostOps0_6 (after hostOps0_5 V))))))

theorem final_eq (c : Dev nD) : finalContents (F := Ideal) condOps preI bodyI postI 200 m c = postV (exitV m c) := by
  unfold finalContents postV exitV
  simp only [postI, afterL_cons, afterL_nil]

theorem postV_arg0 (V : Valuation τ sig (Elt Ideal)) : postV V (Proc.devRef .tc main_arg0) = V (Proc.devRef .tc main_arg0) := by
  unfold postV; after_reads_simp

theorem postV_arg1 (V : Valuation τ sig (Elt Ideal)) : postV V (Proc.devRef .tc main_arg1) = V (Proc.devRef .tc main_arg1) := by
  unfold postV; after_reads_simp

theorem postV_arg2 (V : Valuation τ sig (Elt Ideal)) : postV V (Proc.devRef .tc main_arg2) = V (Proc.devRef .tc main_arg2) := by
  unfold postV; after_reads_simp

/-- A buffer that nothing in @main writes ends as it was at the launch. -/
theorem final_keep (c : Dev nD) (r : Ref sig .tc) (hp : postV (exitV m c) (Proc.devRef .tc r) = exitV m c (Proc.devRef .tc r))
    (hc : r ∉ condOps_W) (hb : r ∉ while0Ops0_W) (h0 : r ∉ hostOps0_W) (h1 : r ∉ hostOps0_1_W) (h2 : r ∉ hostOps0_2_W)
    (h3 : r ∉ hostOps0_3_W) (h4 : r ∉ hostOps0_4_W) :
    finalContents (F := Ideal) condOps preI bodyI postI 200 m c (Proc.devRef .tc r) = m (c, Proc.devRef .tc r) := by
  rw [final_eq, hp, exitV_keep m c r hc hb, entry_keep m c r h0 h1 h2 h3 h4]

theorem final_arg0 (c : Dev nD) : finalContents (F := Ideal) condOps preI bodyI postI 200 m c (Proc.devRef .tc main_arg0) = m (c, Proc.devRef .tc main_arg0) :=
  final_keep m c main_arg0 (postV_arg0 _) (by decide) (by decide) (by decide) (by decide) (by decide) (by decide) (by decide)

theorem final_arg1 (c : Dev nD) : finalContents (F := Ideal) condOps preI bodyI postI 200 m c (Proc.devRef .tc main_arg1) = m (c, Proc.devRef .tc main_arg1) :=
  final_keep m c main_arg1 (postV_arg1 _) (by decide) (by decide) (by decide) (by decide) (by decide) (by decide) (by decide)

theorem final_arg2 (c : Dev nD) : finalContents (F := Ideal) condOps preI bodyI postI 200 m c (Proc.devRef .tc main_arg2) = m (c, Proc.devRef .tc main_arg2) :=
  final_keep m c main_arg2 (postV_arg2 _) (by decide) (by decide) (by decide) (by decide) (by decide) (by decide) (by decide)

/-- The reference's frame: it runs, its arguments end unchanged, and it has no semaphore at all. -/
theorem frame (ρ : Dev nD → PrngReg) : θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run (defs (F := Ideal)) _ _).mono
    (fun _ h => ⟨fun c => ⟨(h c main_arg0 rfl).trans (final_arg0 m c), (h c main_arg1 rfl).trans (final_arg1 m c),
      (h c main_arg2 rfl).trans (final_arg2 m c)⟩, sem_eq_zero_of_no_sems (by decide) _⟩)
    (run_fold m ρ)

end Cert.ReferenceIdeal.Value

end
-- ==== Proof.TopK.lean ====
/- The top-k of a row as a function of the row's keys: which position the stable sort by "greater first" puts at each
   place. Filler keys at the end of a row do not change its first places, and taking the first places of every chunk of a
   row and then the first places of those is the same as sorting the whole row. Last, `Host.topK` read at an index. -/
module

public import Idealize.ShloMosaic.Lib.SortPrefix
public import Idealize.ShloMosaic.PureOps.Ideal
public import Idealize.ShloMosaic.PureOps.Ideal.Laws
public import Idealize.ShloMosaic.Lib.Pointwise.Index
public import Mathlib.Logic.Equiv.Fin.Basic

@[expose] public section

namespace Cert.TopK

open Idealize.ShloMosaic

variable {α : Type} [LinearOrder α]

/-- Position `k` sorts before position `k'`: its key is greater. -/
def keyBefore {n : ℕ} (key : Fin n → α) (k k' : Fin n) : Bool := decide (key k' < key k)

/-- Position `k` sorts before position `k'`: its key is greater, or the keys are equal and `k` comes first. -/
def posBefore {n : ℕ} (key : Fin n → α) (k k' : Fin n) : Bool :=
  decide (key k' < key k) || (decide (key k = key k') && decide (k < k'))

/-- The position whose element the stable sort by greater keys puts at place `k`. -/
def order {n : ℕ} (key : Fin n → α) : Fin n → Fin n := sortedFrom (keyBefore key)

theorem posBefore_strict {n : ℕ} (key : Fin n → α) : StrictTotalBefore (posBefore key) :=
  StrictTotalBefore.of_key_then_position (fun a b : α => decide (b < a)) key (fun a => by simp)
    (fun a b c h₁ h₂ => by simp only [decide_eq_true_eq] at *; exact lt_trans h₂ h₁)
    (fun a b => by
      simp only [decide_eq_true_eq]
      rcases lt_trichotomy a b with h | h | h
      · exact Or.inr (Or.inr h)
      · exact Or.inr (Or.inl h)
      · exact Or.inl h)

/-- Inserting a position that is smaller than all of the list's: the keys alone decide as the keys and positions do. -/
theorem insert_eq {n : ℕ} (key : Fin n → α) (a : Fin n) (l : List (Fin n)) (h : ∀ b ∈ l, a < b) :
    insertBefore (keyBefore key) a l = insertBefore (posBefore key) a l := by
  induction l with
  | nil => rfl
  | cons b l ih =>
    have hb : keyBefore key b a = posBefore key b a := by
      have := h b (by simp)
      simp [keyBefore, posBefore, not_lt_of_gt this]
    unfold insertBefore
    rw [hb, ih fun c hc => h c (List.mem_cons_of_mem _ hc)]

/-- The stable sort by the keys of increasing positions is the sort by keys and positions. -/
theorem sort_eq {n : ℕ} (key : Fin n → α) (l : List (Fin n)) (h : l.Pairwise (· < ·)) :
    stableSort (keyBefore key) l = stableSort (posBefore key) l := by
  induction l with
  | nil => rfl
  | cons a l ih =>
    rw [List.pairwise_cons] at h
    unfold stableSort
    rw [ih h.2]
    exact insert_eq key a _ fun b hb => h.1 b ((perm_stableSort _ _).mem_iff.mp hb)

theorem order_eq {n : ℕ} (key : Fin n → α) : order key = sortedFrom (posBefore key) := by
  have h : sortPositions n (keyBefore key) = sortPositions n (posBefore key) := by
    unfold sortPositions
    exact sort_eq key _ (List.pairwise_lt_finRange n)
  funext k
  unfold order sortedFrom
  simp only [List.get_eq_getElem, Fin.val_cast, h]

theorem order_injective {n : ℕ} (key : Fin n → α) : Function.Injective (order key) := by
  rw [order_eq]; exact sortedFrom_injective _

theorem order_surjective {n : ℕ} (key : Fin n → α) : Function.Surjective (order key) := by
  rw [order_eq]; exact sortedFrom_surjective _

/-- A later place's position is not before an earlier place's. -/
theorem order_later {n : ℕ} (key : Fin n → α) {i j : Fin n} (h : i < j) :
    posBefore key (order key j) (order key i) = false := by
  rw [order_eq]
  exact sortedFrom_noInversion (posBefore key) (posBefore key) (fun a b h => (posBefore_strict key).asymm a b h)
    (fun _ _ h => h) (posBefore_strict key).negTrans i j h

/-- An earlier place's position is before a later place's. -/
theorem order_earlier {n : ℕ} (key : Fin n → α) {i j : Fin n} (h : i < j) :
    posBefore key (order key i) (order key j) = true := by
  rcases (posBefore_strict key).total (order key i) (order key j) (fun e => (ne_of_lt h) (order_injective key e)) with h' | h'
  · exact h'
  · rw [order_later key h] at h'; exact absurd h' (by decide)

/-- The position at an earlier place is the one before: places are compared as positions are. -/
theorem lt_of_before {n : ℕ} (key : Fin n → α) {i j : Fin n} (h : posBefore key (order key i) (order key j) = true) :
    i < j := by
  rcases lt_trichotomy i j with h' | h' | h'
  · exact h'
  · subst h'; rw [(posBefore_strict key).irrefl] at h; exact absurd h (by decide)
  · rw [order_later key h'] at h; exact absurd h (by decide)

theorem order_prefix {n k : ℕ} (key : Fin n → α) (hk : k ≤ n) (σ : Fin k → Fin n) (hinj : Function.Injective σ)
    (hord : ∀ i j : Fin k, i < j → posBefore key (σ j) (σ i) = false)
    (hdom : ∀ (i : Fin k) (p : Fin n), (∀ j, σ j ≠ p) → posBefore key p (σ i) = false) (i : Fin k) :
    order key (i.castLE hk) = σ i := by
  rw [order_eq]
  exact (posBefore_strict key).sortedFrom_eq_of_prefix hk σ hinj hord hdom i

/-- Filler keys, none greater than a real key, at the end of a row do not change the row's places. -/
theorem order_pad {n n' : ℕ} (h : n ≤ n') (key : Fin n → α) (key' : Fin n' → α)
    (hk : ∀ p, key' (p.castLE h) = key p) (hfill : ∀ (p : Fin n) (q : Fin n'), n ≤ q.val → key' q ≤ key p) (i : Fin n) :
    order key' (i.castLE h) = (order key i).castLE h := by
  have hb : ∀ p q : Fin n, posBefore key' (p.castLE h) (q.castLE h) = posBefore key p q := fun p q => by
    simp [posBefore, hk]
  refine order_prefix key' h (fun i => (order key i).castLE h) ?_ ?_ ?_ i
  · intro a b hab
    exact order_injective key (Fin.castLE_injective h hab)
  · intro i j hij
    rw [hb]; exact order_later key hij
  · intro i p hp
    by_cases hpn : p.val < n
    · obtain ⟨j, hj⟩ := order_surjective key ⟨p.val, hpn⟩
      exact absurd (by rw [hj]; rfl) (hp j)
    · have hle := hfill (order key i) p (not_lt.mp hpn)
      have hlt : ¬ p < (order key i).castLE h := by
        intro hlt
        have h1 : p.val < (order key i).val := hlt
        have h2 := (order key i).isLt
        omega
      simp [posBefore, hk, hle, hlt]

/-- TWO STAGES. A row of `m` chunks of `w` keys: the first `r` places of every chunk, in the chunks' order, are the
    candidates, `cand` giving the candidate at a place of a chunk. The candidates' first places are the row's. -/
theorem order_two_stage {m w r : ℕ} (hr : r ≤ w) (hrm : r ≤ m * w) (hrc : r ≤ m * r) (key : Fin (m * w) → α)
    (ckey : Fin (m * r) → α)
    (hck : ∀ (c : Fin m) (s : Fin r), ckey (finProdFinEquiv (c, s))
      = key (finProdFinEquiv (c, order (fun l => key (finProdFinEquiv (c, l))) (s.castLE hr)))) (i : Fin r) :
    order key (i.castLE hrm)
      = finProdFinEquiv ((finProdFinEquiv.symm (order ckey (i.castLE hrc))).1,
          order (fun l => key (finProdFinEquiv ((finProdFinEquiv.symm (order ckey (i.castLE hrc))).1, l)))
            ((finProdFinEquiv.symm (order ckey (i.castLE hrc))).2.castLE hr)) := by
  let loc : Fin m → Fin w → Fin w := fun c => order (fun l => key (finProdFinEquiv (c, l)))
  -- the row's position of a candidate
  let pos : Fin (m * r) → Fin (m * w) := fun q =>
    finProdFinEquiv ((finProdFinEquiv.symm q).1, loc (finProdFinEquiv.symm q).1 ((finProdFinEquiv.symm q).2.castLE hr))
  have hpos : ∀ c s, pos (finProdFinEquiv (c, s)) = finProdFinEquiv (c, loc c (s.castLE hr)) := fun c s => by
    simp only [pos, Equiv.symm_apply_apply]
  have hkey : ∀ q, ckey q = key (pos q) := fun q => by
    obtain ⟨⟨c, s⟩, rfl⟩ := finProdFinEquiv.surjective q
    rw [hpos]; exact hck c s
  -- flat positions are compared chunk first
  have hflat : ∀ {N : ℕ} (c c' : Fin m) (l l' : Fin N),
      (finProdFinEquiv (c, l) < finProdFinEquiv (c', l') ↔ c < c' ∨ (c = c' ∧ l < l')) := by
    intro N c c' l l'
    rw [Fin.lt_def]
    show l.val + N * c.val < l'.val + N * c'.val ↔ _
    have h1 := l.isLt
    have h2 := l'.isLt
    constructor
    · intro h
      rcases lt_trichotomy c c' with hc | hc | hc
      · exact Or.inl hc
      · subst hc; exact Or.inr ⟨rfl, Fin.lt_def.mpr (by omega)⟩
      · exfalso
        have h3 : N * (c'.val + 1) ≤ N * c.val := Nat.mul_le_mul_left _ hc
        rw [Nat.mul_add] at h3
        omega
    · rintro (hc | ⟨rfl, hl⟩)
      · have h3 : N * (c.val + 1) ≤ N * c'.val := Nat.mul_le_mul_left _ hc
        rw [Nat.mul_add] at h3
        omega
      · have := Fin.lt_def.mp hl; omega
  -- within a chunk the row's order is the chunk's
  have hchunk : ∀ (c : Fin m) (l l' : Fin w),
      posBefore key (finProdFinEquiv (c, l)) (finProdFinEquiv (c, l'))
        = posBefore (fun l => key (finProdFinEquiv (c, l))) l l' := by
    intro c l l'
    have : (finProdFinEquiv (c, l) < finProdFinEquiv (c, l')) ↔ l < l' := by rw [hflat]; simp
    simp only [posBefore, this]
  -- candidates are compared as their positions are
  have hcand : ∀ q q', posBefore ckey q q' = posBefore key (pos q) (pos q') := by
    intro q q'
    obtain ⟨⟨c, s⟩, rfl⟩ := finProdFinEquiv.surjective q
    obtain ⟨⟨c', s'⟩, rfl⟩ := finProdFinEquiv.surjective q'
    by_cases hc : c = c'
    · subst hc
      have e1 : posBefore key (pos (finProdFinEquiv (c, s))) (pos (finProdFinEquiv (c, s'))) = decide (s < s') := by
        rw [hpos, hpos, hchunk]
        rcases lt_trichotomy s s' with h | h | h
        · rw [order_earlier _ (show s.castLE hr < s'.castLE hr from h)]; simp [h]
        · subst h; rw [(posBefore_strict _).irrefl]; simp
        · rw [order_later _ (show s'.castLE hr < s.castLE hr from h)]; simp [not_lt_of_gt h]
      rw [e1]
      have hlt : (finProdFinEquiv (c, s) < finProdFinEquiv (c, s')) ↔ s < s' := by rw [hflat]; simp
      have e2 : posBefore key (pos (finProdFinEquiv (c, s))) (pos (finProdFinEquiv (c, s'))) = true ↔ s < s' := by
        rw [e1, decide_eq_true_eq]
      have e3 : posBefore ckey (finProdFinEquiv (c, s)) (finProdFinEquiv (c, s')) = true ↔ s < s' := by
        simp only [posBefore, hlt, hkey, Bool.or_eq_true, Bool.and_eq_true, decide_eq_true_eq] at e2 ⊢
        constructor
        · rintro (h | ⟨-, h⟩)
          · exact e2.mp (Or.inl h)
          · exact h
        · intro h
          rcases e2.mpr h with h' | ⟨h', -⟩
          · exact Or.inl h'
          · exact Or.inr ⟨h', h⟩
      rw [Bool.eq_iff_iff, e3, decide_eq_true_eq]
    · have hl1 : (finProdFinEquiv (c, s) < finProdFinEquiv (c', s')) ↔ c < c' := by rw [hflat]; simp [hc]
      have hl2 : (finProdFinEquiv (c, loc c (s.castLE hr)) < finProdFinEquiv (c', loc c' (s'.castLE hr))) ↔ c < c' := by
        rw [hflat]; simp [hc]
      simp only [posBefore, hkey, hpos, hl1, hl2]
  have hposinj : Function.Injective pos := by
    intro q q' h
    obtain ⟨⟨c, s⟩, rfl⟩ := finProdFinEquiv.surjective q
    obtain ⟨⟨c', s'⟩, rfl⟩ := finProdFinEquiv.surjective q'
    rw [hpos, hpos] at h
    have h' := finProdFinEquiv.injective h
    simp only [Prod.mk.injEq] at h'
    obtain ⟨rfl, h2⟩ := h'
    have := Fin.castLE_injective hr (order_injective _ h2)
    rw [this]
  show order key (i.castLE hrm) = pos (order ckey (i.castLE hrc))
  refine order_prefix key hrm (fun i => pos (order ckey (i.castLE hrc))) ?_ ?_ ?_ i
  · intro a b hab
    exact Fin.castLE_injective hrc (order_injective ckey (hposinj hab))
  · intro i j hij
    rw [← hcand]; exact order_later ckey (show i.castLE hrc < j.castLE hrc from hij)
  · intro i p hp
    obtain ⟨⟨c, l⟩, rfl⟩ := finProdFinEquiv.surjective p
    obtain ⟨s, rfl⟩ : ∃ s, loc c s = l := order_surjective _ l
    by_cases hs : s.val < r
    · -- a candidate that is not among the first `r` places
      have e : finProdFinEquiv (c, loc c s) = pos (finProdFinEquiv (c, (⟨s.val, hs⟩ : Fin r))) := by
        rw [hpos]; rfl
      obtain ⟨j, hj⟩ := order_surjective ckey (finProdFinEquiv (c, (⟨s.val, hs⟩ : Fin r)))
      have hjr : ¬ j.val < r := fun hlt => hp ⟨j.val, hlt⟩ (by
        show pos (order ckey j) = _
        rw [hj, e])
      rw [e, ← hcand, ← hj]
      have hij : i.castLE hrc < j := Fin.lt_def.mpr (lt_of_lt_of_le i.isLt (Nat.le_of_not_lt hjr))
      exact order_later ckey hij
    · -- not a candidate: `r` candidates of its chunk are before it
      by_contra hne
      have hb : posBefore key (finProdFinEquiv (c, loc c s)) (pos (order ckey (i.castLE hrc))) = true := by
        simpa using hne
      have hall : ∀ t : Fin r, ∃ j : Fin (m * r), order ckey j = finProdFinEquiv (c, t) ∧ j.val < i.val := by
        intro t
        obtain ⟨j, hj⟩ := order_surjective ckey (finProdFinEquiv (c, t))
        refine ⟨j, hj, ?_⟩
        have h1 : posBefore key (pos (finProdFinEquiv (c, t))) (finProdFinEquiv (c, loc c s)) = true := by
          rw [hpos, hchunk]
          have hts : t.castLE hr < s := Fin.lt_def.mpr (lt_of_lt_of_le t.isLt (Nat.le_of_not_lt hs))
          exact order_earlier _ hts
        have h2 := (posBefore_strict key).trans _ _ _ h1 hb
        rw [← hcand, ← hj] at h2
        exact lt_of_before ckey h2
      choose f hf using hall
      have hinj : Function.Injective fun t : Fin r => (⟨(f t).val, (hf t).2⟩ : Fin i.val) := by
        intro a b hab
        have hv : f a = f b := Fin.ext (by simpa using hab)
        have := (hf a).1.symm.trans (hv ▸ (hf b).1)
        have := finProdFinEquiv.injective this
        simpa using this
      have := Fintype.card_le_of_injective _ hinj
      simp only [Fintype.card_fin] at this
      have := i.isLt
      omega

/-! ## `Host.topK` at an index -/

/-- The comparison `Host.topK` is printed with, at the extended reals: the first is greater. -/
theorem gt_eq (a b : Ideal .f32) :
    ((FloatOps.cmpfTotal (F := Ideal) .gt a b == 1#1) : Bool) = decide ((b : EReal) < (a : EReal)) := by
  rw [Idealize.ShloMosaic.Ideal.cmpfTotal_def]
  by_cases h : (b : EReal) < (a : EReal) <;> simp [Ideal.cmp, CmpDirection.ordered, h]

/-- A row of a matrix. -/
abbrev row2 {a n : ℕ} (x : Vec Ideal ⟨2, ![a, n]⟩ .f32) (i : Fin a) : Fin n → EReal := fun l => x (ix2 i l)

/-- A row of a three-axis array. -/
abbrev row3 {a b n : ℕ} (x : Vec Ideal ⟨3, ![a, b, n]⟩ .f32) (i : Fin a) (j : Fin b) : Fin n → EReal :=
  fun l => x (ix3 i j l)

theorem along2 {a n : ℕ} (i : Fin a) (j l : Fin n) :
    (ix2 i j : (⟨2, ![a, n]⟩ : Shape).Idx).along 1 l = ix2 i l := by
  funext k; fin_cases k <;> rfl

theorem along3 {a b n : ℕ} (i : Fin a) (j : Fin b) (p l : Fin n) :
    (ix3 i j p : (⟨3, ![a, b, n]⟩ : Shape).Idx).along 2 l = ix3 i j l := by
  funext k; fin_cases k <;> rfl

theorem topK2 {a n k : ℕ} (hk : k ≤ n) (x : Vec Ideal ⟨2, ![a, n]⟩ .f32)
    (h : (⟨2, ![a, n]⟩ : Shape).Slices (fun _ => 0) ⟨2, ![a, k]⟩) (i : Fin a) (j : Fin k) :
    (Host.topK ⟨2, ![a, k]⟩ 1 (FloatOps.cmpfTotal (F := Ideal) (φ := .f32) .gt) x h).1 (ix2 i j)
        = x (ix2 i (order (row2 x i) (j.castLE hk)))
      ∧ (Host.topK ⟨2, ![a, k]⟩ 1 (FloatOps.cmpfTotal (F := Ideal) (φ := .f32) .gt) x h).2 (ix2 i j)
        = BitVec.ofNat 32 (order (row2 x i) (j.castLE hk)).val := by
  have hslice : (fun q : Fin 2 => (⟨(fun _ => 0) q + ((ix2 i j : (⟨2, ![a, k]⟩ : Shape).Idx) (q.cast h.1.symm)).val,
      Nat.lt_of_lt_of_le (Nat.add_lt_add_left ((ix2 i j : (⟨2, ![a, k]⟩ : Shape).Idx) _).isLt _) (h.2 q)⟩ : Fin ((⟨2, ![a, n]⟩ : Shape).size q)))
      = (ix2 i (j.castLE hk) : (⟨2, ![a, n]⟩ : Shape).Idx) := by
    funext q; fin_cases q <;> exact Fin.ext (Nat.zero_add _)
  have hcmp : (fun l l' : Fin n => ((FloatOps.cmpfTotal (F := Ideal) (φ := .f32) .gt (x (ix2 i l)) (x (ix2 i l')) == 1#1) : Bool))
      = keyBefore (row2 x i) := by
    funext l l'; exact gt_eq _ _
  have hsort : sortedFrom (fun l l' : Fin n => ((FloatOps.cmpfTotal (F := Ideal) (φ := .f32) .gt
      (x ((ix2 i (j.castLE hk) : (⟨2, ![a, n]⟩ : Shape).Idx).along 1 l))
      (x ((ix2 i (j.castLE hk) : (⟨2, ![a, n]⟩ : Shape).Idx).along 1 l')) == 1#1) : Bool)) (j.castLE hk)
      = order (row2 x i) (j.castLE hk) := by
    simp only [along2]; rw [hcmp]; rfl
  constructor
  · show x (Shape.Idx.along _ 1 (sortedFrom _ _)) = _
    rw [hslice]
    exact (congrArg (fun l => x (Shape.Idx.along (ix2 i (j.castLE hk)) 1 l)) hsort).trans (by rw [along2])
  · show BitVec.ofNat 32 (Shape.Idx.along _ 1 (sortedFrom _ _) 1).val = _
    rw [hslice]
    exact (congrArg (fun l => BitVec.ofNat 32 (Shape.Idx.along (ix2 i (j.castLE hk)) 1 l 1).val) hsort).trans (by rw [along2]; rfl)

theorem topK3 {a b n k : ℕ} (hk : k ≤ n) (x : Vec Ideal ⟨3, ![a, b, n]⟩ .f32)
    (h : (⟨3, ![a, b, n]⟩ : Shape).Slices (fun _ => 0) ⟨3, ![a, b, k]⟩) (i : Fin a) (p : Fin b) (j : Fin k) :
    (Host.topK ⟨3, ![a, b, k]⟩ 2 (FloatOps.cmpfTotal (F := Ideal) (φ := .f32) .gt) x h).1 (ix3 i p j)
        = x (ix3 i p (order (row3 x i p) (j.castLE hk)))
      ∧ (Host.topK ⟨3, ![a, b, k]⟩ 2 (FloatOps.cmpfTotal (F := Ideal) (φ := .f32) .gt) x h).2 (ix3 i p j)
        = BitVec.ofNat 32 (order (row3 x i p) (j.castLE hk)).val := by
  have hslice : (fun q : Fin 3 => (⟨(fun _ => 0) q + ((ix3 i p j : (⟨3, ![a, b, k]⟩ : Shape).Idx) (q.cast h.1.symm)).val,
      Nat.lt_of_lt_of_le (Nat.add_lt_add_left ((ix3 i p j : (⟨3, ![a, b, k]⟩ : Shape).Idx) _).isLt _) (h.2 q)⟩ : Fin ((⟨3, ![a, b, n]⟩ : Shape).size q)))
      = (ix3 i p (j.castLE hk) : (⟨3, ![a, b, n]⟩ : Shape).Idx) := by
    funext q; fin_cases q <;> exact Fin.ext (Nat.zero_add _)
  have hcmp : (fun l l' : Fin n => ((FloatOps.cmpfTotal (F := Ideal) (φ := .f32) .gt (x (ix3 i p l)) (x (ix3 i p l')) == 1#1) : Bool))
      = keyBefore (row3 x i p) := by
    funext l l'; exact gt_eq _ _
  have hsort : sortedFrom (fun l l' : Fin n => ((FloatOps.cmpfTotal (F := Ideal) (φ := .f32) .gt
      (x ((ix3 i p (j.castLE hk) : (⟨3, ![a, b, n]⟩ : Shape).Idx).along 2 l))
      (x ((ix3 i p (j.castLE hk) : (⟨3, ![a, b, n]⟩ : Shape).Idx).along 2 l')) == 1#1) : Bool)) (j.castLE hk)
      = order (row3 x i p) (j.castLE hk) := by
    simp only [along3]; rw [hcmp]; rfl
  constructor
  · show x (Shape.Idx.along _ 2 (sortedFrom _ _)) = _
    rw [hslice]
    exact (congrArg (fun l => x (Shape.Idx.along (ix3 i p (j.castLE hk)) 2 l)) hsort).trans (by rw [along3])
  · show BitVec.ofNat 32 (Shape.Idx.along _ 2 (sortedFrom _ _) 2).val = _
    rw [hslice]
    exact (congrArg (fun l => BitVec.ofNat 32 (Shape.Idx.along (ix3 i p (j.castLE hk)) 2 l 2).val) hsort).trans (by rw [along3]; rfl)

end Cert.TopK
-- ==== Proof.Stages.lean ====
/-
The largest scores of a row taken in two stages: the largest of each of `m` equal chunks, then the largest
of those. Each survivor of the second stage is named by its spot in the whole row.
-/
module

public import proofs.«01_k».proof.Proof.TopK

@[expose] public section

noncomputable section

namespace Cert.TopK
open Idealize.ShloMosaic Idealize.ShloMosaic.TcCoe

/-- The spot in the row of the `q`-th survivor of the first stage: chunk `q / r`, place `q % r` of that chunk's order. -/
def spot {m w r : ℕ} (hr : r ≤ w) (key : Fin (m * w) → EReal) (q : Fin (m * r)) : Fin (m * w) :=
  finProdFinEquiv (q.divNat, order (fun l => key (finProdFinEquiv (q.divNat, l))) (q.modNat.castLE hr))

theorem spot_val {m w r : ℕ} (hr : r ≤ w) (key : Fin (m * w) → EReal) (q : Fin (m * r)) :
    (spot hr key q).val = (order (fun l => key (finProdFinEquiv (q.divNat, l))) (q.modNat.castLE hr)).val + w * q.divNat.val := rfl

/-- A place in a chunk plus where the chunk begins, as words. -/
theorem place_word (x c w : ℕ) :
    IntOp.addi (BitVec.ofNat 32 x) (IntOp.muli (BitVec.ofNat 32 c) (BitVec.ofNat 32 w)) = BitVec.ofNat 32 (x + w * c) := by
  show BitVec.ofNat 32 x + BitVec.ofNat 32 c * BitVec.ofNat 32 w = _
  rw [← BitVec.ofNat_mul, ← BitVec.ofNat_add, Nat.mul_comm]

/-- The two stages find what one sort of the row finds. -/
theorem order_spot {m w r : ℕ} (hr : r ≤ w) (hrm : r ≤ m * w) (hrc : r ≤ m * r) (key : Fin (m * w) → EReal) (i : Fin r) :
    order key (i.castLE hrm) = spot hr key (order (fun q => key (spot hr key q)) (i.castLE hrc)) := by
  refine order_two_stage hr hrm hrc key _ (fun c s => ?_) i
  have h := finProdFinEquiv.symm_apply_apply (c, s)
  have h1 : (finProdFinEquiv (c, s)).divNat = c := congrArg Prod.fst h
  have h2 : (finProdFinEquiv (c, s)).modNat = s := congrArg Prod.snd h
  unfold spot
  rw [h1, h2]

/-- The first stage's values, off the row cut into its chunks. -/
theorem first_values {a : ℕ} (X : Vec Ideal ⟨3, ![a, 17, 896]⟩ .f32) (P : Fin a → Fin (17 * 896) → EReal)
    (h : (⟨3, ![a, 17, 896]⟩ : Shape).Slices (fun _ => 0) ⟨3, ![a, 17, 200]⟩)
    (hX : ∀ i c l, X (ix3 i c l) = P i (finProdFinEquiv (c, l))) (i : Fin a) (q : Fin (17 * 200)) :
    (Host.topK ⟨3, ![a, 17, 200]⟩ 2 (FloatOps.cmpfTotal (F := Ideal) (φ := .f32) .gt) X h).1 (ix3 i q.divNat q.modNat)
      = P i (spot (m := 17) (w := 896) (r := 200) (by omega) (P i) q) := by
  refine ((topK3 (by omega) X h i q.divNat q.modNat).1).trans ((hX _ _ _).trans ?_)
  unfold spot
  rw [show row3 X i q.divNat = fun l => P i (finProdFinEquiv (q.divNat, l)) from funext fun l => hX i q.divNat l]

/-- The first stage's spots: the position in the chunk plus where the chunk begins. -/
theorem first_spots {a : ℕ} (X : Vec Ideal ⟨3, ![a, 17, 896]⟩ .f32) (P : Fin a → Fin (17 * 896) → EReal)
    (h : (⟨3, ![a, 17, 896]⟩ : Shape).Slices (fun _ => 0) ⟨3, ![a, 17, 200]⟩)
    (hX : ∀ i c l, X (ix3 i c l) = P i (finProdFinEquiv (c, l))) (i : Fin a) (q : Fin (17 * 200)) :
    IntOp.addi ((Host.topK ⟨3, ![a, 17, 200]⟩ 2 (FloatOps.cmpfTotal (F := Ideal) (φ := .f32) .gt) X h).2 (ix3 i q.divNat q.modNat))
        (IntOp.muli (BitVec.ofNat 32 q.divNat.val) 896#32)
      = BitVec.ofNat 32 (spot (m := 17) (w := 896) (r := 200) (by omega) (P i) q).val := by
  rw [(topK3 (by omega) X h i q.divNat q.modNat).2, spot_val,
    show row3 X i q.divNat = fun l => P i (finProdFinEquiv (q.divNat, l)) from funext fun l => hX i q.divNat l]
  exact place_word _ _ _

/-- The second stage's values. -/
theorem second_values {a : ℕ} (X : Vec Ideal ⟨2, ![a, 17 * 200]⟩ .f32) (P : Fin a → Fin (17 * 896) → EReal)
    (h : (⟨2, ![a, 17 * 200]⟩ : Shape).Slices (fun _ => 0) ⟨2, ![a, 200]⟩)
    (hX : ∀ i q, X (ix2 i q) = P i (spot (m := 17) (w := 896) (r := 200) (by omega) (P i) q)) (i : Fin a) (j : Fin 200) :
    (Host.topK ⟨2, ![a, 200]⟩ 1 (FloatOps.cmpfTotal (F := Ideal) (φ := .f32) .gt) X h).1 (ix2 i j)
      = P i (order (P i) (j.castLE (by omega))) := by
  refine ((topK2 (by omega) X h i j).1).trans ((hX _ _).trans ?_)
  rw [show row2 X i = fun q => P i (spot (m := 17) (w := 896) (r := 200) (by omega) (P i) q) from funext fun q => hX i q,
    order_spot (by omega) (by omega) (by omega) (P i) j]

/-- The second stage's positions among the first stage's survivors. -/
theorem second_places {a : ℕ} (X : Vec Ideal ⟨2, ![a, 17 * 200]⟩ .f32) (P : Fin a → Fin (17 * 896) → EReal)
    (h : (⟨2, ![a, 17 * 200]⟩ : Shape).Slices (fun _ => 0) ⟨2, ![a, 200]⟩)
    (hX : ∀ i q, X (ix2 i q) = P i (spot (m := 17) (w := 896) (r := 200) (by omega) (P i) q)) (i : Fin a) (j : Fin 200) :
    (Host.topK ⟨2, ![a, 200]⟩ 1 (FloatOps.cmpfTotal (F := Ideal) (φ := .f32) .gt) X h).2 (ix2 i j)
      = BitVec.ofNat 32 (order (fun q => P i (spot (m := 17) (w := 896) (r := 200) (by omega) (P i) q)) (j.castLE (by omega))).val := by
  refine ((topK2 (by omega) X h i j).2).trans ?_
  rw [show row2 X i = fun q => P i (spot (m := 17) (w := 896) (r := 200) (by omega) (P i) q) from funext fun q => hX i q]

end Cert.TopK
end
-- ==== Proof.Take.lean ====
/- Reading along an axis. Both programs read `x[..., i, ...]` at an array of positions in the same way: a negative
   position is moved up by the axis's length, the positions are checked against the axis, a gather reads, and an element
   whose position fails the check is replaced. Where every position lies on the axis all of that is the plain read. -/
module

public import Idealize.ShloMosaic.PureOps.Reduce
public import Idealize.ShloMosaic.PureOps.Vector
public import Idealize.ShloMosaic.PureOps.ShapeOps
public import Idealize.ShloMosaic.Lib.Pipeline.ValueKit

@[expose] public section

noncomputable section

namespace Cert.Take

open Idealize.ShloMosaic

/-- The word of a natural number below `2 ^ 31`, read signed, is the number. -/
theorem toInt_ofNat {n : ℕ} (h : n < 2 ^ 31) : (BitVec.ofNat 32 n).toInt = n := by
  rw [BitVec.toInt_eq_toNat_of_lt] <;> rw [BitVec.toNat_ofNat, Nat.mod_eq_of_lt (by omega)]
  omega

theorem slt_zero {n : ℕ} (h : n < 2 ^ 31) : IntOp.cmpi .slt (BitVec.ofNat 32 n) 0#32 = 0#1 := by
  have : ¬ ((n : ℤ) < 0) := by omega
  simp [IntOp.cmpi, BitVec.slt, toInt_ofNat h, this]

theorem sge_zero {n : ℕ} (h : n < 2 ^ 31) : IntOp.cmpi .sge (BitVec.ofNat 32 n) 0#32 = 1#1 := by
  simp [IntOp.cmpi, BitVec.sle, toInt_ofNat h]

theorem sle_bound {n b : ℕ} (h : n ≤ b) (hb : b < 2 ^ 31) : IntOp.cmpi .sle (BitVec.ofNat 32 n) (BitVec.ofNat 32 b) = 1#1 := by
  simp [IntOp.cmpi, BitVec.sle, toInt_ofNat hb, toInt_ofNat (lt_of_le_of_lt h hb), h]

/-- A conjunction of bits that are all set is set. -/
theorem reduce_andi_ones {s t u : Shape} {axes : List (Fin s.rank)} (x : IVec s 1) (init : u.Idx → BitVec 1)
    (h : s.ReducesTo axes t) (hu : 0 < u.numel) (hx : ∀ i, x i = 1#1) (hi : ∀ i, init i = 1#1) (j : t.Idx) :
    Host.reduce IntOp.andi x init h hu j = 1#1 := by
  rw [Host.reduce_eq_foldl, hi]
  generalize List.filter _ _ = l
  induction l with
  | nil => rfl
  | cons a l ih => rw [List.foldl_cons, hx]; exact ih

/-- Positions with the negative ones moved up by `N`. -/
abbrev wrapped {t : Shape} (N : BitVec 32) (idx : IVec t 32) : IVec t 32 :=
  select (cmpi .slt idx fun _ => 0#32) (addi idx fun _ => N) idx

theorem wrapped_eq {t : Shape} (N : BitVec 32) (idx : IVec t 32) (f : t.Idx → ℕ) (hf : ∀ q, f q < 2 ^ 31)
    (h : ∀ q, idx q = BitVec.ofNat 32 (f q)) : wrapped N idx = fun q => BitVec.ofNat 32 (f q) := by
  funext q
  show Scalar.select (IntOp.cmpi .slt (idx q) 0#32) _ (idx q) = _
  rw [h, slt_zero (hf q)]
  rfl

/-- The check of the positions against an axis whose last position is `b`. -/
abbrev inAxis {si t u : Shape} {axes : List (Fin si.rank)} (b : BitVec 32) (w : IVec si 32) (h : si.ReducesTo axes t)
    (hu : 0 < u.numel) : IVec t 1 :=
  Host.reduce IntOp.andi (andi (cmpi .sge w fun _ => 0#32) (cmpi .sle w fun _ => b)) (constantI u 1 1#1) h hu

theorem inAxis_eq {si t u : Shape} {axes : List (Fin si.rank)} (b : ℕ) (hb : b < 2 ^ 31) (w : IVec si 32)
    (h : si.ReducesTo axes t) (hu : 0 < u.numel) (f : si.Idx → ℕ) (hf : ∀ q, f q ≤ b) (hw : ∀ q, w q = BitVec.ofNat 32 (f q))
    (j : t.Idx) : inAxis (BitVec.ofNat 32 b) w h hu j = 1#1 := by
  refine reduce_andi_ones _ _ h hu (fun i => ?_) (fun _ => rfl) j
  show IntOp.andi (IntOp.cmpi .sge (w i) 0#32) (IntOp.cmpi .sle (w i) (BitVec.ofNat 32 b)) = 1#1
  rw [hw, sge_zero (lt_of_le_of_lt (hf i) hb), sle_bound (hf i) hb]
  rfl

theorem select_of_one {s : Shape} {α : Type} (m : IVec s 1) (g fill : s.Idx → α) (j : s.Idx) (h : m j = 1#1) :
    select m g fill j = g j := by
  show Scalar.select (m j) _ _ = _
  rw [h]
  rfl

/-- The clamp of an in-range position does nothing. -/
theorem clamp_eq {n p : ℕ} (hp : p < n) (hn : n < 2 ^ 31) : min (BitVec.ofNat 32 p).toInt.toNat (n - 1) = p := by
  rw [toInt_ofNat (by omega)]
  simp
  omega

/-- A gather of one element per position, from the rows of a matrix. -/
theorem gather2 {α : Type} {a n r : ℕ} (hn : n < 2 ^ 31) (d : GatherDims ⟨2, ![a, n]⟩ ⟨3, ![a, r, 1]⟩ ⟨2, ![a, r]⟩)
    (h0 : d.offsetDims = []) (h1 : d.collapsedSliceDims = [1]) (h2 : d.operandBatchingDims = [0])
    (h3 : d.startIndicesBatchingDims = [0]) (h4 : d.startIndexMap = [1]) (h5 : d.indexVectorDim = 2)
    (h6 : d.sliceSizes 1 = 1)
    (x : (⟨2, ![a, n]⟩ : Shape).Idx → α) (w : IVec ⟨3, ![a, r, 1]⟩ 32) (i : Fin a) (j : Fin r) (p : Fin n)
    (hw : w (ix3 i j 0) = BitVec.ofNat 32 p.val) :
    Host.gather d x w (ix2 i j) = x (ix2 i p) := by
  obtain ⟨off, col, ob, sb, sim, ivd, ss, wf⟩ := d
  dsimp only at h0 h1 h2 h3 h4 h5 h6
  subst h0 h1 h2 h3 h4 h5
  unfold Host.gather
  refine congrArg x (funext fun b => Fin.ext ?_)
  match b with
  | ⟨0, _⟩ =>
    show 0 + i.val + 0 = i.val
    omega
  | ⟨1, _⟩ =>
    show min (w _).toInt.toNat (n - ss 1) + 0 + 0 = p.val
    rw [show (GatherDims.siIdx _ _ _ : (⟨3, ![a, r, 1]⟩ : Shape).Idx) = ix3 i j 0 from funext fun c => by
      match c with
      | ⟨0, _⟩ => rfl
      | ⟨1, _⟩ => rfl
      | ⟨2, _⟩ => rfl, hw, h6, clamp_eq p.isLt hn]
    rfl

/-- A gather of one element per position, from the rows of a matrix that each serve several rows of positions. -/
theorem gather3 {α : Type} {a n e r : ℕ} (hn : n < 2 ^ 31) (d : GatherDims ⟨2, ![a, n]⟩ ⟨4, ![a, e, r, 1]⟩ ⟨3, ![a, e, r]⟩)
    (h0 : d.offsetDims = []) (h1 : d.collapsedSliceDims = [1]) (h2 : d.operandBatchingDims = [0])
    (h3 : d.startIndicesBatchingDims = [0]) (h4 : d.startIndexMap = [1]) (h5 : d.indexVectorDim = 3)
    (h6 : d.sliceSizes 1 = 1)
    (x : (⟨2, ![a, n]⟩ : Shape).Idx → α) (w : IVec ⟨4, ![a, e, r, 1]⟩ 32) (i : Fin a) (k : Fin e) (j : Fin r) (p : Fin n)
    (hw : w (ix4 i k j 0) = BitVec.ofNat 32 p.val) :
    Host.gather d x w (ix3 i k j) = x (ix2 i p) := by
  obtain ⟨off, col, ob, sb, sim, ivd, ss, wf⟩ := d
  dsimp only at h0 h1 h2 h3 h4 h5 h6
  subst h0 h1 h2 h3 h4 h5
  unfold Host.gather
  refine congrArg x (funext fun b => Fin.ext ?_)
  match b with
  | ⟨0, _⟩ =>
    show 0 + i.val + 0 = i.val
    omega
  | ⟨1, _⟩ =>
    show min (w _).toInt.toNat (n - ss 1) + 0 + 0 = p.val
    rw [show (GatherDims.siIdx _ _ _ : (⟨4, ![a, e, r, 1]⟩ : Shape).Idx) = ix4 i k j 0 from funext fun c => by
      match c with
      | ⟨0, _⟩ => rfl
      | ⟨1, _⟩ => rfl
      | ⟨2, _⟩ => rfl
      | ⟨3, _⟩ => rfl, hw, h6, clamp_eq p.isLt hn]
    rfl

/-- A gather of one row of `k` elements per position. -/
theorem gatherRow2 {α : Type} {a n r k : ℕ} (hn : n < 2 ^ 31)
    (d : GatherDims ⟨3, ![a, n, k]⟩ ⟨3, ![a, r, 1]⟩ ⟨3, ![a, r, k]⟩)
    (h0 : d.offsetDims = [2]) (h1 : d.collapsedSliceDims = [1]) (h2 : d.operandBatchingDims = [0])
    (h3 : d.startIndicesBatchingDims = [0]) (h4 : d.startIndexMap = [1]) (h5 : d.indexVectorDim = 2)
    (h6 : d.sliceSizes 1 = 1)
    (x : (⟨3, ![a, n, k]⟩ : Shape).Idx → α) (w : IVec ⟨3, ![a, r, 1]⟩ 32) (i : Fin a) (j : Fin r) (l : Fin k) (p : Fin n)
    (hw : w (ix3 i j 0) = BitVec.ofNat 32 p.val) :
    Host.gather d x w (ix3 i j l) = x (ix3 i p l) := by
  obtain ⟨off, col, ob, sb, sim, ivd, ss, wf⟩ := d
  dsimp only at h0 h1 h2 h3 h4 h5 h6
  subst h0 h1 h2 h3 h4 h5
  unfold Host.gather
  refine congrArg x (funext fun b => Fin.ext ?_)
  match b with
  | ⟨0, _⟩ =>
    show 0 + i.val + 0 = i.val
    omega
  | ⟨1, _⟩ =>
    show min (w _).toInt.toNat (n - ss 1) + 0 + 0 = p.val
    rw [show (GatherDims.siIdx _ _ _ : (⟨3, ![a, r, 1]⟩ : Shape).Idx) = ix3 i j 0 from funext fun c => by
      match c with
      | ⟨0, _⟩ => rfl
      | ⟨1, _⟩ => rfl
      | ⟨2, _⟩ => rfl, hw, h6, clamp_eq p.isLt hn]
    rfl
  | ⟨2, _⟩ =>
    show 0 + 0 + l.val = l.val
    omega

/-- A gather of one row of `k` elements per position, each matrix of rows serving several rows of positions. -/
theorem gatherRow3 {α : Type} {a n e r k : ℕ} (hn : n < 2 ^ 31)
    (d : GatherDims ⟨3, ![a, n, k]⟩ ⟨4, ![a, e, r, 1]⟩ ⟨4, ![a, e, r, k]⟩)
    (h0 : d.offsetDims = [3]) (h1 : d.collapsedSliceDims = [1]) (h2 : d.operandBatchingDims = [0])
    (h3 : d.startIndicesBatchingDims = [0]) (h4 : d.startIndexMap = [1]) (h5 : d.indexVectorDim = 3)
    (h6 : d.sliceSizes 1 = 1)
    (x : (⟨3, ![a, n, k]⟩ : Shape).Idx → α) (w : IVec ⟨4, ![a, e, r, 1]⟩ 32) (i : Fin a) (q : Fin e) (j : Fin r) (l : Fin k)
    (p : Fin n) (hw : w (ix4 i q j 0) = BitVec.ofNat 32 p.val) :
    Host.gather d x w (ix4 i q j l) = x (ix3 i p l) := by
  obtain ⟨off, col, ob, sb, sim, ivd, ss, wf⟩ := d
  dsimp only at h0 h1 h2 h3 h4 h5 h6
  subst h0 h1 h2 h3 h4 h5
  unfold Host.gather
  refine congrArg x (funext fun b => Fin.ext ?_)
  match b with
  | ⟨0, _⟩ =>
    show 0 + i.val + 0 = i.val
    omega
  | ⟨1, _⟩ =>
    show min (w _).toInt.toNat (n - ss 1) + 0 + 0 = p.val
    rw [show (GatherDims.siIdx _ _ _ : (⟨4, ![a, e, r, 1]⟩ : Shape).Idx) = ix4 i q j 0 from funext fun c => by
      match c with
      | ⟨0, _⟩ => rfl
      | ⟨1, _⟩ => rfl
      | ⟨2, _⟩ => rfl
      | ⟨3, _⟩ => rfl, hw, h6, clamp_eq p.isLt hn]
    rfl
  | ⟨2, _⟩ =>
    show 0 + 0 + l.val = l.val
    omega

/-- Appending an axis of one element to a matrix moves no element. -/
theorem cast_unit2 {α : Type} {a r : ℕ} (x : (⟨2, ![a, r]⟩ : Shape).Idx → α) (h : (⟨2, ![a, r]⟩ : Shape).ShapeCasts ⟨3, ![a, r, 1]⟩)
    (i : Fin a) (j : Fin r) : shapeCast ⟨3, ![a, r, 1]⟩ x h (ix3 i j 0) = x (ix2 i j) := by
  refine shapeCast_apply x h _ _ ?_
  rw [Shape.rowMajor_val_two, Shape.rowMajor_val_three]
  show i.val * r + j.val = (i.val * r + j.val) * 1 + 0
  omega

/-- Appending an axis of one element to an array of three axes moves no element. -/
theorem cast_unit3 {α : Type} {a e r : ℕ} (x : (⟨3, ![a, e, r]⟩ : Shape).Idx → α)
    (h : (⟨3, ![a, e, r]⟩ : Shape).ShapeCasts ⟨4, ![a, e, r, 1]⟩) (i : Fin a) (k : Fin e) (j : Fin r) :
    shapeCast ⟨4, ![a, e, r, 1]⟩ x h (ix4 i k j 0) = x (ix3 i k j) := by
  refine shapeCast_apply x h _ _ ?_
  rw [Shape.rowMajor_val_three, Shape.rowMajor_val_four]
  show (i.val * e + k.val) * r + j.val = ((i.val * e + k.val) * r + j.val) * 1 + 0
  omega

/-- Reading the rows of a matrix at one row of positions each. -/
theorem take2 {α : Type} {a n r b : ℕ} {u : Shape} {axes : List (Fin (⟨3, ![a, r, 1]⟩ : Shape).rank)} (hb : b + 1 = n)
    (hn : n < 2 ^ 31) (N : BitVec 32) (d : GatherDims ⟨2, ![a, n]⟩ ⟨3, ![a, r, 1]⟩ ⟨2, ![a, r]⟩)
    (h0 : d.offsetDims = []) (h1 : d.collapsedSliceDims = [1]) (h2 : d.operandBatchingDims = [0])
    (h3 : d.startIndicesBatchingDims = [0]) (h4 : d.startIndexMap = [1]) (h5 : d.indexVectorDim = 2)
    (h6 : d.sliceSizes 1 = 1) (hc : (⟨2, ![a, r]⟩ : Shape).ShapeCasts ⟨3, ![a, r, 1]⟩)
    (hred : (⟨3, ![a, r, 1]⟩ : Shape).ReducesTo axes ⟨2, ![a, r]⟩) (hu : 0 < u.numel)
    (x : (⟨2, ![a, n]⟩ : Shape).Idx → α) (idx : IVec ⟨2, ![a, r]⟩ 32) (fill : (⟨2, ![a, r]⟩ : Shape).Idx → α)
    (f : Fin a → Fin r → Fin n) (h : ∀ i j, idx (ix2 i j) = BitVec.ofNat 32 (f i j).val) (i : Fin a) (j : Fin r) :
    select (inAxis (BitVec.ofNat 32 b) (shapeCast ⟨3, ![a, r, 1]⟩ (wrapped N idx) hc) hred hu)
      (Host.gather d x (shapeCast ⟨3, ![a, r, 1]⟩ (wrapped N idx) hc)) fill (ix2 i j) = x (ix2 i (f i j)) := by
  have hidx : ∀ q : (⟨2, ![a, r]⟩ : Shape).Idx, idx q = BitVec.ofNat 32 (f (q 0) (q 1)).val := fun q =>
    (congrArg idx (funext fun t => by
      match t with
      | ⟨0, _⟩ => rfl
      | ⟨1, _⟩ => rfl)).trans (h (q 0) (q 1))
  rw [wrapped_eq N idx (fun q => (f (q 0) (q 1)).val) (fun q => by have := (f (q 0) (q 1)).isLt; omega) hidx]
  refine (select_of_one _ _ _ _ (inAxis_eq b (by omega) _ hred hu
    (fun q => (f (Shape.reshapeEquiv hc q 0) (Shape.reshapeEquiv hc q 1)).val)
    (fun q => Nat.le_of_lt_succ (lt_of_lt_of_eq (f (Shape.reshapeEquiv hc q 0) (Shape.reshapeEquiv hc q 1)).isLt hb.symm)) (fun q => rfl) _)).trans ?_
  exact gather2 hn d h0 h1 h2 h3 h4 h5 h6 _ _ i j _ (cast_unit2 _ _ i j)

/-- Reading the rows of a matrix at several rows of positions each. -/
theorem take3 {α : Type} {a n e r b : ℕ} {u : Shape} {axes : List (Fin (⟨4, ![a, e, r, 1]⟩ : Shape).rank)} (hb : b + 1 = n)
    (hn : n < 2 ^ 31) (N : BitVec 32) (d : GatherDims ⟨2, ![a, n]⟩ ⟨4, ![a, e, r, 1]⟩ ⟨3, ![a, e, r]⟩)
    (h0 : d.offsetDims = []) (h1 : d.collapsedSliceDims = [1]) (h2 : d.operandBatchingDims = [0])
    (h3 : d.startIndicesBatchingDims = [0]) (h4 : d.startIndexMap = [1]) (h5 : d.indexVectorDim = 3)
    (h6 : d.sliceSizes 1 = 1) (hc : (⟨3, ![a, e, r]⟩ : Shape).ShapeCasts ⟨4, ![a, e, r, 1]⟩)
    (hred : (⟨4, ![a, e, r, 1]⟩ : Shape).ReducesTo axes ⟨3, ![a, e, r]⟩) (hu : 0 < u.numel)
    (x : (⟨2, ![a, n]⟩ : Shape).Idx → α) (idx : IVec ⟨3, ![a, e, r]⟩ 32) (fill : (⟨3, ![a, e, r]⟩ : Shape).Idx → α)
    (f : Fin a → Fin e → Fin r → Fin n) (h : ∀ i k j, idx (ix3 i k j) = BitVec.ofNat 32 (f i k j).val)
    (i : Fin a) (k : Fin e) (j : Fin r) :
    select (inAxis (BitVec.ofNat 32 b) (shapeCast ⟨4, ![a, e, r, 1]⟩ (wrapped N idx) hc) hred hu)
      (Host.gather d x (shapeCast ⟨4, ![a, e, r, 1]⟩ (wrapped N idx) hc)) fill (ix3 i k j) = x (ix2 i (f i k j)) := by
  have hidx : ∀ q : (⟨3, ![a, e, r]⟩ : Shape).Idx, idx q = BitVec.ofNat 32 (f (q 0) (q 1) (q 2)).val := fun q =>
    (congrArg idx (funext fun t => by
      match t with
      | ⟨0, _⟩ => rfl
      | ⟨1, _⟩ => rfl
      | ⟨2, _⟩ => rfl)).trans (h (q 0) (q 1) (q 2))
  rw [wrapped_eq N idx (fun q => (f (q 0) (q 1) (q 2)).val)
    (fun q => by have := (f (q 0) (q 1) (q 2)).isLt; omega) hidx]
  refine (select_of_one _ _ _ _ (inAxis_eq b (by omega) _ hred hu
    (fun q => (f (Shape.reshapeEquiv hc q 0) (Shape.reshapeEquiv hc q 1) (Shape.reshapeEquiv hc q 2)).val)
    (fun q => Nat.le_of_lt_succ (lt_of_lt_of_eq (f (Shape.reshapeEquiv hc q 0) (Shape.reshapeEquiv hc q 1) (Shape.reshapeEquiv hc q 2)).isLt hb.symm)) (fun q => rfl) _)).trans ?_
  exact gather3 hn d h0 h1 h2 h3 h4 h5 h6 _ _ i k j _ (cast_unit3 _ _ i k j)

/-- Reading rows of `k` elements at one row of positions each. -/
theorem takeRow2 {α : Type} {a n r k b : ℕ} {u : Shape} {axes : List (Fin (⟨3, ![a, r, 1]⟩ : Shape).rank)} (hb : b + 1 = n)
    (hn : n < 2 ^ 31) (N : BitVec 32) (d : GatherDims ⟨3, ![a, n, k]⟩ ⟨3, ![a, r, 1]⟩ ⟨3, ![a, r, k]⟩)
    (h0 : d.offsetDims = [2]) (h1 : d.collapsedSliceDims = [1]) (h2 : d.operandBatchingDims = [0])
    (h3 : d.startIndicesBatchingDims = [0]) (h4 : d.startIndexMap = [1]) (h5 : d.indexVectorDim = 2)
    (h6 : d.sliceSizes 1 = 1)
    (hred : (⟨3, ![a, r, 1]⟩ : Shape).ReducesTo axes ⟨2, ![a, r]⟩) (hu : 0 < u.numel)
    (hbc : (⟨2, ![a, r]⟩ : Shape).BroadcastsInDim ⟨3, ![a, r, k]⟩ (![0, 1] : Fin 2 → Fin 3))
    (x : (⟨3, ![a, n, k]⟩ : Shape).Idx → α) (idx : IVec ⟨3, ![a, r, 1]⟩ 32) (fill : (⟨3, ![a, r, k]⟩ : Shape).Idx → α)
    (f : Fin a → Fin r → Fin n) (h : ∀ i j, idx (ix3 i j 0) = BitVec.ofNat 32 (f i j).val) (i : Fin a) (j : Fin r) (l : Fin k) :
    select (broadcastInDim ⟨3, ![a, r, k]⟩ ![0, 1] hbc (inAxis (BitVec.ofNat 32 b) (wrapped N idx) hred hu))
      (Host.gather d x (wrapped N idx)) fill (ix3 i j l) = x (ix3 i (f i j) l) := by
  have hidx : ∀ q : (⟨3, ![a, r, 1]⟩ : Shape).Idx, idx q = BitVec.ofNat 32 (f (q 0) (q 1)).val := fun q =>
    (congrArg idx (funext fun t => by
      match t with
      | ⟨0, _⟩ => rfl
      | ⟨1, _⟩ => rfl
      | ⟨2, _⟩ => exact Subsingleton.elim (α := Fin 1) _ _)).trans (h (q 0) (q 1))
  rw [wrapped_eq N idx (fun q => (f (q 0) (q 1)).val) (fun q => by have := (f (q 0) (q 1)).isLt; omega) hidx]
  refine (select_of_one _ _ _ _ ?_).trans ?_
  · exact inAxis_eq b (by omega) _ hred hu (fun q => (f (q 0) (q 1)).val)
      (fun q => Nat.le_of_lt_succ (lt_of_lt_of_eq (f (q 0) (q 1)).isLt hb.symm)) (fun q => rfl) _
  exact gatherRow2 hn d h0 h1 h2 h3 h4 h5 h6 _ _ i j l _ rfl

/-- Reading rows of `k` elements at several rows of positions each. -/
theorem takeRow3 {α : Type} {a n e r k b : ℕ} {u : Shape} {axes : List (Fin (⟨4, ![a, e, r, 1]⟩ : Shape).rank)} (hb : b + 1 = n)
    (hn : n < 2 ^ 31) (N : BitVec 32) (d : GatherDims ⟨3, ![a, n, k]⟩ ⟨4, ![a, e, r, 1]⟩ ⟨4, ![a, e, r, k]⟩)
    (h0 : d.offsetDims = [3]) (h1 : d.collapsedSliceDims = [1]) (h2 : d.operandBatchingDims = [0])
    (h3 : d.startIndicesBatchingDims = [0]) (h4 : d.startIndexMap = [1]) (h5 : d.indexVectorDim = 3)
    (h6 : d.sliceSizes 1 = 1)
    (hred : (⟨4, ![a, e, r, 1]⟩ : Shape).ReducesTo axes ⟨3, ![a, e, r]⟩) (hu : 0 < u.numel)
    (hbc : (⟨3, ![a, e, r]⟩ : Shape).BroadcastsInDim ⟨4, ![a, e, r, k]⟩ (![0, 1, 2] : Fin 3 → Fin 4))
    (x : (⟨3, ![a, n, k]⟩ : Shape).Idx → α) (idx : IVec ⟨4, ![a, e, r, 1]⟩ 32) (fill : (⟨4, ![a, e, r, k]⟩ : Shape).Idx → α)
    (f : Fin a → Fin e → Fin r → Fin n) (h : ∀ i q j, idx (ix4 i q j 0) = BitVec.ofNat 32 (f i q j).val)
    (i : Fin a) (q : Fin e) (j : Fin r) (l : Fin k) :
    select (broadcastInDim ⟨4, ![a, e, r, k]⟩ ![0, 1, 2] hbc (inAxis (BitVec.ofNat 32 b) (wrapped N idx) hred hu))
      (Host.gather d x (wrapped N idx)) fill (ix4 i q j l) = x (ix3 i (f i q j) l) := by
  have hidx : ∀ q : (⟨4, ![a, e, r, 1]⟩ : Shape).Idx, idx q = BitVec.ofNat 32 (f (q 0) (q 1) (q 2)).val := fun q =>
    (congrArg idx (funext fun t => by
      match t with
      | ⟨0, _⟩ => rfl
      | ⟨1, _⟩ => rfl
      | ⟨2, _⟩ => rfl
      | ⟨3, _⟩ => exact Subsingleton.elim (α := Fin 1) _ _)).trans (h (q 0) (q 1) (q 2))
  rw [wrapped_eq N idx (fun q => (f (q 0) (q 1) (q 2)).val)
    (fun q => by have := (f (q 0) (q 1) (q 2)).isLt; omega) hidx]
  refine (select_of_one _ _ _ _ ?_).trans ?_
  · exact inAxis_eq b (by omega) _ hred hu (fun q => (f (q 0) (q 1) (q 2)).val)
      (fun q => Nat.le_of_lt_succ (lt_of_lt_of_eq (f (q 0) (q 1) (q 2)).isLt hb.symm)) (fun q => rfl) _
  exact gatherRow3 hn d h0 h1 h2 h3 h4 h5 h6 _ _ i q j l _ rfl

/-- Comparing two positions as words is comparing them. -/
theorem later_bit {n : ℕ} (hn : n < 2 ^ 31) (i j : Fin n) :
    IntOp.cmpi .sgt (BitVec.ofNat 32 j.val) (BitVec.ofNat 32 i.val) = BitVec.ofBool (decide (i < j)) := by
  show BitVec.ofBool (decide ((BitVec.ofNat 32 i.val).toInt < (BitVec.ofNat 32 j.val).toInt)) = _
  rw [toInt_ofNat (by omega), toInt_ofNat (by omega)]
  refine congrArg BitVec.ofBool (decide_eq_decide.mpr ?_)
  rw [Fin.lt_def]; omega

end Cert.Take
-- ==== Proof.Spec.lean ====
/-
The detection head as plain mathematics over the extended reals: what both programs compute, written
once over the three argument arrays and without either program's tiling. Every index is a `Fin`.
-/
module

public import proofs.«01_k».proof.Proof.TopK
public import Idealize.ShloMosaic.Lib.Pipeline.ValueKit

@[expose] public section

noncomputable section

namespace Cert.Spec
open Idealize.ShloMosaic Idealize.ShloMosaic.TcCoe Cert.TopK

/-- Minus infinity, the score of a box that does not count. -/
abbrev low : EReal := Ideal.ofBits .f32 4286578688#32
/-- The score threshold 0.05. -/
abbrev thr : EReal := Ideal.ofBits .f32 1028443341#32
/-- The overlap threshold 0.45. -/
abbrev half45 : EReal := Ideal.ofBits .f32 1055286886#32

/-- A box's corners (left, top, right, bottom) from its four offsets `x` and its default box `d`. -/
def corners (x d : Fin 4 → EReal) : Fin 4 → EReal :=
  ![Ideal.ofBits .f32 1036831949#32 * x 0 * d 2 + d 0
      - Ideal.ofBits .f32 1056964608#32 * (Ideal.exp (Ideal.ofBits .f32 1045220557#32 * x 2) * d 2),
    Ideal.ofBits .f32 1036831949#32 * x 1 * d 3 + d 1
      - Ideal.ofBits .f32 1056964608#32 * (Ideal.exp (Ideal.ofBits .f32 1045220557#32 * x 3) * d 3),
    Ideal.ofBits .f32 1036831949#32 * x 0 * d 2 + d 0
      + Ideal.ofBits .f32 1056964608#32 * (Ideal.exp (Ideal.ofBits .f32 1045220557#32 * x 2) * d 2),
    Ideal.ofBits .f32 1036831949#32 * x 1 * d 3 + d 1
      + Ideal.ofBits .f32 1056964608#32 * (Ideal.exp (Ideal.ofBits .f32 1045220557#32 * x 3) * d 3)]

/-- The largest of a box's class scores. -/
def top (x : Fin 81 → EReal) : EReal := Finset.fold max low x Finset.univ

/-- The softmax probability of class `c + 1`. -/
def soft (x : Fin 81 → EReal) (c : Fin 80) : EReal :=
  Ideal.div (Ideal.exp (x ⟨1 + c.val, by omega⟩ - top x)) (∑ k, Ideal.exp (x k - top x))

/-- That probability where it passes the threshold, and minus infinity elsewhere. -/
def masked (x : Fin 81 → EReal) (c : Fin 80) : EReal := if thr < soft x c then soft x c else low

section
variable (A0 : (⟨3, ![16, 4, 15130]⟩ : Shape).Idx → EReal) (A1 : (⟨3, ![16, 81, 15130]⟩ : Shape).Idx → EReal)
  (A2 : (⟨2, ![15130, 4]⟩ : Shape).Idx → EReal)

/-- Image `b`'s decoded box `p`. -/
def box (b : Fin 16) (p : Fin 15130) : Fin 4 → EReal := corners (fun k => A0 (ix3 b k p)) (fun k => A2 (ix2 p k))

/-- Image `b`'s score for class `c` at box `p`. -/
def prob (b : Fin 16) (c : Fin 80) (p : Fin 15130) : EReal := masked (fun k => A1 (ix3 b k p)) c

/-- Which box the `j`-th candidate of a class is: the boxes by falling score, ties by position. -/
def pos (b : Fin 16) (c : Fin 80) (j : Fin 200) : Fin 15130 := order (prob A1 b c) (j.castLE (by omega))

/-- The `j`-th candidate's score. -/
def candS (b : Fin 16) (c : Fin 80) (j : Fin 200) : EReal := prob A1 b c (pos A1 b c j)

/-- The `j`-th candidate's corners. -/
def candB (b : Fin 16) (c : Fin 80) (j : Fin 200) : Fin 4 → EReal := box A0 A2 b (pos A1 b c j)
end

/-- How far two boxes overlap, side by side: the common part of `[p a, p b]` and `[q a, q b]`. -/
def common (p q : Fin 4 → EReal) (a b : Fin 4) : EReal := max (min (p b) (q b) - max (p a) (q a)) 0

/-- The area of the overlap. -/
def inter (p q : Fin 4 → EReal) : EReal := common p q 0 2 * common p q 1 3

/-- A box's area. -/
def area (p : Fin 4 → EReal) : EReal := (p 2 - p 0) * (p 3 - p 1)

/-- The overlap over the union. -/
def iou (p q : Fin 4 → EReal) : EReal := Ideal.div (inter p q) (area p + area q - inter p q)

/-- Candidate `i` comes before `j` and overlaps it too far. -/
def clash (B : Fin 200 → Fin 4 → EReal) (i j : Fin 200) : Bool := decide (half45 ≤ iou (B i) (B j)) && decide (i < j)

/-- Which candidates are still kept once the first `k` have had their say: candidate `k`, if kept itself, drops
    every later one it overlaps too far. -/
def keep (s : Fin 200 → EReal) (B : Fin 200 → Fin 4 → EReal) : ℕ → Fin 200 → Bool
  | 0, j => decide (thr < s j)
  | k + 1, j => if h : k < 200 then keep s B k j && !(clash B ⟨k, h⟩ j && keep s B k ⟨k, h⟩) else keep s B k j

theorem keep_zero (s : Fin 200 → EReal) (B : Fin 200 → Fin 4 → EReal) (j : Fin 200) :
    keep s B 0 j = decide (thr < s j) := rfl

theorem keep_succ (s : Fin 200 → EReal) (B : Fin 200 → Fin 4 → EReal) (k : Fin 200) (j : Fin 200) :
    keep s B (k.val + 1) j = (keep s B k.val j && !(clash B k j && keep s B k.val k)) := dif_pos k.isLt

/-- A candidate's score after suppression: its own if it is kept, and minus infinity if not. -/
def nms (s : Fin 200 → EReal) (B : Fin 200 → Fin 4 → EReal) (j : Fin 200) : EReal :=
  if keep s B 200 j = true then s j else low

/-- A detection's score as it is returned: zero where there is none. -/
def shown (x : EReal) : EReal :=
  if FloatOps.absf (F := Ideal) (φ := .f32) x < Ideal.ofBits .f32 2139095040#32 then x else Ideal.ofBits .f32 0#32

/-- The class a position among an image's `80 * 200` candidates lies in. -/
def cls (q : Fin 16000) : Fin 80 := ⟨q.val / 200, by omega⟩
/-- The candidate it is within its class. -/
def slot (q : Fin 16000) : Fin 200 := ⟨q.val % 200, by omega⟩

section
variable (A0 : (⟨3, ![16, 4, 15130]⟩ : Shape).Idx → EReal) (A1 : (⟨3, ![16, 81, 15130]⟩ : Shape).Idx → EReal)
  (A2 : (⟨2, ![15130, 4]⟩ : Shape).Idx → EReal)

/-- The suppressed scores, a row per image. -/
def flat (b : Fin 16) (q : Fin 16000) : EReal :=
  nms (candS A1 b (cls q)) (candB A0 A1 A2 b (cls q)) (slot q)

/-- Which candidate the `j`-th detection of image `b` is. -/
def sel (b : Fin 16) (j : Fin 200) : Fin 16000 := order (flat A0 A1 A2 b) (j.castLE (by omega))

/-- The detections' boxes. -/
def outB : (⟨3, ![16, 200, 4]⟩ : Shape).Idx → EReal := fun i =>
  candB A0 A1 A2 (i 0) (cls (sel A0 A1 A2 (i 0) (i 1))) (slot (sel A0 A1 A2 (i 0) (i 1))) (i 2)

/-- The detections' scores. -/
def outS : (⟨2, ![16, 200]⟩ : Shape).Idx → EReal := fun i => shown (flat A0 A1 A2 (i 0) (sel A0 A1 A2 (i 0) (i 1)))

/-- The detections' labels: the class, counted from one. -/
def outL : (⟨2, ![16, 200]⟩ : Shape).Idx → BitVec 32 := fun i =>
  IntOp.addi (BitVec.ofNat 32 (cls (sel A0 A1 A2 (i 0) (i 1))).val) 1#32
end

end Cert.Spec
end
-- ==== Proof.KPick.lean ====
module

public import proofs.«01_k».proof.Defs
public import proofs.«01_k».proof.Proof.Gen.KernelIdeal
public import proofs.«01_k».proof.Proof.Gen.KernelIdeal.Frame
public import Idealize.ShloMosaic.Lib.Pipeline.ValueKit
public import Idealize.ShloMosaic.Lib.StableHlo.ReadAt

public import proofs.«01_k».proof.Proof.Stages
public import proofs.«01_k».proof.Proof.Take
public import proofs.«01_k».proof.Proof.Spec

@[expose] public section

set_option maxRecDepth 16384
noncomputable section

namespace Cert.KernelIdeal.Value
open Idealize.ShloMosaic Idealize.ShloMosaic.TcCoe Idealize.ShloMosaic.StableHlo Idealize.SL.Sem
open Cert.KernelIdeal.Gen

variable (V : Valuation τ sig (Elt Ideal))

/-- The image and the class that row `i` of the flattened scores belongs to. -/
abbrev img (i : Fin 1280) : Fin 16 := ⟨i.val / 80, by omega⟩
abbrev kind (i : Fin 1280) : Fin 80 := ⟨i.val % 80, by omega⟩

variable (P : Fin 1280 → Fin (17 * 896) → EReal)
  (hP : ∀ (i : Fin 1280) (p : Fin 15232), V (Proc.devRef .tc main_v4_1) (ix3 (img i) (kind i) p) = P i p)

include hP in
/-- The flattened, chunked scores. -/
theorem chunk_at (i : Fin 1280) (c : Fin 17) (l : Fin 896) :
    V (Proc.devRef .tc main_v4_1) (ix3 (img i) (kind i) ⟨c.val * 896 + l.val, by omega⟩) = P i (finProdFinEquiv (c, l)) := by
  refine (hP i _).trans (congrArg (P i) (Fin.ext ?_))
  show c.val * 896 + l.val = l.val + 896 * c.val
  omega

include hP in
/-- The first stage's scores. -/
theorem v13_at (i : Fin 1280) (q : Fin 3400) :
    after hostOps1 V (Proc.devRef .tc main_v13) (ix2 i q) = (P i (TopK.spot (m := 17) (w := 896) (r := 200) (by omega) (P i) q) : EReal) := by
  after_reads_at
  exact TopK.first_values _ P _ (chunk_at V P hP) i q

include hP in
/-- The first stage's positions. -/
theorem v12_at (i : Fin 1280) (q : Fin 3400) :
    after hostOps1 V (Proc.devRef .tc main_v12) (ix2 i q) = BitVec.ofNat 32 (TopK.spot (m := 17) (w := 896) (r := 200) (by omega) (P i) q).val := by
  after_reads_at
  exact TopK.first_spots _ P _ (chunk_at V P hP) i q

include hP in
/-- The second stage's scores. -/
theorem values2_at (i : Fin 1280) (j : Fin 200) :
    after hostOps1 V (Proc.devRef .tc main_values_2) (ix2 i j) = (P i (TopK.order (P i) (j.castLE (by omega))) : EReal) := by
  after_reads_at
  exact TopK.second_values _ P _ (fun i q => TopK.first_values _ P _ (chunk_at V P hP) i q) i j

include hP in
/-- The second stage's positions. -/
theorem indices3_at (i : Fin 1280) (j : Fin 200) :
    after hostOps1 V (Proc.devRef .tc main_indices_3) (ix2 i j)
      = BitVec.ofNat 32 (TopK.order (fun q => P i (TopK.spot (m := 17) (w := 896) (r := 200) (by omega) (P i) q)) (j.castLE (by omega))).val := by
  after_reads_at
  exact TopK.second_places _ P _ (fun i q => TopK.first_values _ P _ (chunk_at V P hP) i q) i j

end Cert.KernelIdeal.Value
-- ==== Proof.KTake.lean ====
module

public import proofs.«01_k».proof.Defs
public import proofs.«01_k».proof.Proof.Gen.KernelIdeal
public import proofs.«01_k».proof.Proof.Gen.KernelIdeal.Frame
public import Idealize.ShloMosaic.Lib.Pipeline.ValueKit
public import Idealize.ShloMosaic.Lib.StableHlo.ReadAt

public import proofs.«01_k».proof.Proof.Take

@[expose] public section

set_option maxRecDepth 16384
noncomputable section

namespace Cert.KernelIdeal.Value
open Idealize.ShloMosaic Idealize.ShloMosaic.TcCoe Idealize.ShloMosaic.StableHlo Idealize.SL.Sem
open Cert.KernelIdeal.Gen

variable (V : Valuation τ sig (Elt Ideal))

/-- The chosen boxes' positions, looked up in the first stage's by the second stage's. -/
theorem take14_at (f : Fin 1280 → Fin 200 → Fin 3400)
    (h : ∀ i j, V (Proc.devRef .tc main_indices_3) (ix2 i j) = BitVec.ofNat 32 (f i j).val) (i : Fin 1280) (j : Fin 200) :
    after hostOps1_1 V (Proc.devRef .tc main_v14) (ix2 i j) = V (Proc.devRef .tc main_v12) (ix2 i (f i j)) := by
  after_reads_simp
  simp -implicitDefEqProofs only [TRef.toBuf, TRef.ofBuf, cast_cast, cast_eq]
  exact Take.take2 (b := 3399) rfl (by omega) 3400#32 _ rfl rfl rfl rfl rfl rfl rfl _ _ _ (V (Proc.devRef .tc main_v12)) (V (Proc.devRef .tc main_indices_3)) _ f h i j

/-- One corner of the chosen boxes, looked up by position along the one row of that corner's array. -/
theorem corner_at (d : GatherDims S16x15232 S16x80x200x1 S16x80x200)
    (h0 : d.offsetDims = []) (h1 : d.collapsedSliceDims = [1]) (h2 : d.operandBatchingDims = [0])
    (h3 : d.startIndicesBatchingDims = [0]) (h4 : d.startIndexMap = [1]) (h5 : d.indexVectorDim = 3)
    (h6 : d.sliceSizes 1 = 1) (hx : S16x1x15232.ShapeCasts S16x15232) (hc : S16x80x200.ShapeCasts S16x80x200x1)
    {axes : List (Fin 4)} (hred : S16x80x200x1.ReducesTo axes S16x80x200) (hu : 0 < S_.numel)
    (x : S16x1x15232.Idx → EReal) (idx : IVec S16x80x200 32) (fill : S16x80x200.Idx → EReal)
    (f : Fin 16 → Fin 80 → Fin 200 → Fin 15232) (h : ∀ b c j, idx (ix3 b c j) = BitVec.ofNat 32 (f b c j).val)
    (b : Fin 16) (c : Fin 80) (j : Fin 200) :
    select (Take.inAxis 15231#32 (shapeCast S16x80x200x1 (Take.wrapped 15232#32 idx) hc) hred hu)
      (Host.gather d (shapeCast S16x15232 x hx) (shapeCast S16x80x200x1 (Take.wrapped 15232#32 idx) hc)) fill (ix3 b c j)
        = x (ix3 b 0 (f b c j)) := by
  refine (Take.take3 (b := 15231) rfl (by omega) 15232#32 d h0 h1 h2 h3 h4 h5 h6 hc hred hu (shapeCast S16x15232 x hx) idx fill f h b c j).trans ?_
  pointwise

/-- The chosen boxes' left edges. -/
theorem take18_at (f : Fin 16 → Fin 80 → Fin 200 → Fin 15232)
    (h : ∀ b c j, V (Proc.devRef .tc main_v16) (ix3 b c j) = BitVec.ofNat 32 (f b c j).val) (b : Fin 16) (c : Fin 80) (j : Fin 200) :
    after hostOps1_3 V (Proc.devRef .tc main_v18) (ix3 b c j) = (V (Proc.devRef .tc main_v17) (ix3 b 0 (f b c j)) : EReal) := by
  after_reads_simp
  simp -implicitDefEqProofs only [TRef.toBuf, TRef.ofBuf, cast_cast, cast_eq]
  exact corner_at _ rfl rfl rfl rfl rfl rfl rfl _ _ _ _ (V (Proc.devRef .tc main_v17)) (V (Proc.devRef .tc main_v16)) _ f h b c j

theorem slice17_at (b : Fin 16) (p : Fin 15232) :
    after hostOps1_2 V (Proc.devRef .tc main_v17) (ix3 b 0 p) = (V (Proc.devRef .tc main_v4_0) (ix3 b 0 p) : EReal) := by
  after_reads_at

/-- The chosen boxes' top edges. -/
theorem take20_at (f : Fin 16 → Fin 80 → Fin 200 → Fin 15232)
    (h : ∀ b c j, V (Proc.devRef .tc main_v16) (ix3 b c j) = BitVec.ofNat 32 (f b c j).val) (b : Fin 16) (c : Fin 80) (j : Fin 200) :
    after hostOps1_5 V (Proc.devRef .tc main_v20) (ix3 b c j) = (V (Proc.devRef .tc main_v19) (ix3 b 0 (f b c j)) : EReal) := by
  after_reads_simp
  simp -implicitDefEqProofs only [TRef.toBuf, TRef.ofBuf, cast_cast, cast_eq]
  exact corner_at _ rfl rfl rfl rfl rfl rfl rfl _ _ _ _ (V (Proc.devRef .tc main_v19)) (V (Proc.devRef .tc main_v16)) _ f h b c j

theorem slice19_at (b : Fin 16) (p : Fin 15232) :
    after hostOps1_4 V (Proc.devRef .tc main_v19) (ix3 b 0 p) = (V (Proc.devRef .tc main_v4_0) (ix3 b 1 p) : EReal) := by
  after_reads_at

/-- The chosen boxes' right edges. -/
theorem take22_at (f : Fin 16 → Fin 80 → Fin 200 → Fin 15232)
    (h : ∀ b c j, V (Proc.devRef .tc main_v16) (ix3 b c j) = BitVec.ofNat 32 (f b c j).val) (b : Fin 16) (c : Fin 80) (j : Fin 200) :
    after hostOps1_7 V (Proc.devRef .tc main_v22) (ix3 b c j) = (V (Proc.devRef .tc main_v21) (ix3 b 0 (f b c j)) : EReal) := by
  after_reads_simp
  simp -implicitDefEqProofs only [TRef.toBuf, TRef.ofBuf, cast_cast, cast_eq]
  exact corner_at _ rfl rfl rfl rfl rfl rfl rfl _ _ _ _ (V (Proc.devRef .tc main_v21)) (V (Proc.devRef .tc main_v16)) _ f h b c j

theorem slice21_at (b : Fin 16) (p : Fin 15232) :
    after hostOps1_6 V (Proc.devRef .tc main_v21) (ix3 b 0 p) = (V (Proc.devRef .tc main_v4_0) (ix3 b 2 p) : EReal) := by
  after_reads_at

/-- The chosen boxes' bottom edges. -/
theorem take24_at (f : Fin 16 → Fin 80 → Fin 200 → Fin 15232)
    (h : ∀ b c j, V (Proc.devRef .tc main_v16) (ix3 b c j) = BitVec.ofNat 32 (f b c j).val) (b : Fin 16) (c : Fin 80) (j : Fin 200) :
    after hostOps1_9 V (Proc.devRef .tc main_v24) (ix3 b c j) = (V (Proc.devRef .tc main_v23) (ix3 b 0 (f b c j)) : EReal) := by
  after_reads_simp
  simp -implicitDefEqProofs only [TRef.toBuf, TRef.ofBuf, cast_cast, cast_eq]
  exact corner_at _ rfl rfl rfl rfl rfl rfl rfl _ _ _ _ (V (Proc.devRef .tc main_v23)) (V (Proc.devRef .tc main_v16)) _ f h b c j

theorem slice23_at (b : Fin 16) (p : Fin 15232) :
    after hostOps1_8 V (Proc.devRef .tc main_v23) (ix3 b 0 p) = (V (Proc.devRef .tc main_v4_0) (ix3 b 3 p) : EReal) := by
  after_reads_at

/-- The chosen scores and positions, by image and class. -/
theorem v15_at (b : Fin 16) (c : Fin 80) (j : Fin 200) :
    after hostOps1_2 V (Proc.devRef .tc main_v15) (ix3 b c j) = (V (Proc.devRef .tc main_values_2) (ix2 ⟨b.val * 80 + c.val, by omega⟩ j) : EReal) := by
  after_reads_at

theorem v16_at (b : Fin 16) (c : Fin 80) (j : Fin 200) :
    after hostOps1_2 V (Proc.devRef .tc main_v16) (ix3 b c j) = V (Proc.devRef .tc main_v14) (ix2 ⟨b.val * 80 + c.val, by omega⟩ j) := by
  after_reads_at

end Cert.KernelIdeal.Value
-- ==== Proof.KDecode.lean ====
module

public import proofs.«01_k».proof.Defs
public import proofs.«01_k».proof.Proof.Gen.KernelIdeal
public import proofs.«01_k».proof.Proof.Gen.KernelIdeal.Frame
public import Idealize.ShloMosaic.Lib.Pipeline.ValueKit
public import Idealize.ShloMosaic.Lib.StableHlo.ReadAt

public import proofs.«01_k».proof.Proof.Spec

@[expose] public section

set_option maxRecDepth 16384
noncomputable section

namespace Cert.KernelIdeal.Value
open Idealize.ShloMosaic Idealize.ShloMosaic.TcCoe Idealize.ShloMosaic.StableHlo Idealize.SL.Sem
open Cert.KernelIdeal.Gen
open Idealize.ShloMosaic.Pipeline (Dat)

variable (V : (c : Dev nD) → (b : Ref sig .tc) → Buf (Elt Ideal) ((c : Thread nD τ).loc b))

/-- A block's box, corner by corner. -/
theorem box_pay (x0 : Vec Ideal S4x15232 .f32) (x1 : Vec Ideal S1x4x15232 .f32) (x2 : Vec Ideal S1x81x15232 .f32) (k : Fin 4) (p : Fin 15232) :
    out0_3 x0 x1 x2 (ix3 0 k p) = Spec.corners (fun k => x1 (ix3 0 k p)) (fun k => x0 (ix2 k p)) k := by
  unfold out0_3
  frame_out
  fin_cases k <;> (pointwise [k0_pay1, k0_pay3, k0_pay4, k0_pay5, k0_pay6, k0_pay7]; rfl)

/-- A block's masked class probability. -/
theorem prob_pay (x0 : Vec Ideal S4x15232 .f32) (x1 : Vec Ideal S1x4x15232 .f32) (x2 : Vec Ideal S1x81x15232 .f32) (k : Fin 80) (p : Fin 15232) :
    out0_4 x0 x1 x2 (ix3 0 k p) = Spec.masked (fun k => x2 (ix3 0 k p)) k := by
  unfold out0_4
  frame_out
  pointwise [k0_pay2]
  rfl

/-- Where each window's block lies at a point. -/
theorem idx0 : ∀ t : Fin cfg0.grid.N, win0_0.index t = ![0, 0] ∧ win0_1.index t = ![t.val, 0, 0] ∧ win0_2.index t = ![t.val, 0, 0]
    ∧ win0_3.index t = ![t.val, 0, 0] ∧ win0_4.index t = ![t.val, 0, 0] := by decide +kernel

/-- The decoded boxes' array after the call, from the padded offsets and default boxes. -/
theorem box_array (c : Dev nD) :
    (dat0 V c).arrAt 3 cfg0.N = (fun y : S16x4x15232.Idx =>
      Spec.corners (fun k => V c main_v0 (ix3 (y 0) k (y 2))) (fun k => V c main_v3 (ix2 k (y 2))) (y 1) : S16x4x15232.Idx → EReal) := by
  refine (dat0 V c).arrAt_eq_of_covers 3 _ (by decide +kernel) fun t hf y => ?_
  blk_simp
  rw [after0_3]
  idx_vars y
  obtain rfl : y0 = 0 := Subsingleton.elim _ _
  refine (box_pay _ _ _ _ _).trans ?_
  congr 1
  · funext k; blk_ext [iblk0, idx0 t]
  · funext k; blk_ext [iblk0, idx0 t]
  · refine Fin.ext ?_; blk_simp [idx0 t]

/-- The masked probabilities' array after the call, from the padded scores. -/
theorem prob_array (c : Dev nD) :
    (dat0 V c).arrAt 4 cfg0.N = (fun y : S16x80x15232.Idx =>
      Spec.masked (fun k => V c main_v1 (ix3 (y 0) k (y 2))) (y 1) : S16x80x15232.Idx → EReal) := by
  refine (dat0 V c).arrAt_eq_of_covers 4 _ (by decide +kernel) fun t hf y => ?_
  blk_simp
  rw [after0_4]
  idx_vars y
  obtain rfl : y0 = 0 := Subsingleton.elim _ _
  refine (prob_pay _ _ _ _ _).trans ?_
  congr 1
  · funext k; blk_ext [iblk0, idx0 t]
  · refine Fin.ext ?_; blk_simp [idx0 t]

end Cert.KernelIdeal.Value
-- ==== Proof.Pad.lean ====
/-
The padded columns: a box all of whose class scores are the same finite number has probability 1/81 of
each class, below the threshold, so it scores minus infinity.
-/
module

public import proofs.«01_k».proof.Proof.Spec

@[expose] public section

noncomputable section

namespace Cert.Spec
open Idealize.ShloMosaic Idealize.ShloMosaic.TcCoe

/-- The constant minus infinity is the least extended real. -/
theorem low_eq : low = ⊥ := by
  simp [low, Ideal.ofBits, Ideal.ieee]

/-- The score threshold as a real number. -/
theorem thr_eq : thr = ((13421773 / 268435456 : ℝ) : EReal) := by
  simp [thr, Ideal.ofBits, Ideal.ieee, -EReal.coe_mul]; norm_num

/-- The padding score is a real number. -/
theorem pad_eq : ∃ r : ℝ, Ideal.ofBits .f32 4048155338#32 = (r : EReal) := by
  refine ⟨-(13234890 * 2 ^ 76), ?_⟩
  simp [Ideal.ofBits, Ideal.ieee, -EReal.coe_mul]

/-- A box whose class scores are all one real number scores minus infinity. -/
theorem masked_const (r : ℝ) (c : Fin 80) : masked (fun _ => (r : EReal)) c = low := by
  have ht : top (fun _ => (r : EReal)) = (r : EReal) := by
    unfold top
    rw [Finset.fold_const (h := by rw [low_eq]; simp), if_neg Finset.univ_nonempty.ne_empty, low_eq]
    simp
  unfold masked
  refine if_neg ?_
  unfold soft
  rw [ht]
  have h0 : Ideal.exp ((r : EReal) - (r : EReal)) = ((1 : ℝ) : EReal) := by
    rw [← EReal.coe_sub, sub_self, Ideal.exp_coe, Real.exp_zero]
  have hs : (∑ _k : Fin 81, Ideal.exp ((r : EReal) - (r : EReal))) = ((81 : ℝ) : EReal) := by
    rw [h0, Finset.sum_const, Finset.card_univ, Fintype.card_fin]
    rw [← EReal.coe_nsmul]; norm_num
  rw [hs, h0, Ideal.div_coe (by norm_num), ← EReal.coe_mul, thr_eq, EReal.coe_lt_coe_iff]
  norm_num

/-- The padding score in particular. -/
theorem masked_pad (c : Fin 80) : masked (fun _ => Ideal.ofBits .f32 4048155338#32) c = low := by
  obtain ⟨r, hr⟩ := pad_eq
  rw [hr]
  exact masked_const r c

end Cert.Spec
end
-- ==== Proof.KStart.lean ====
module

public import proofs.«01_k».proof.Defs
public import proofs.«01_k».proof.Proof.Gen.KernelIdeal
public import proofs.«01_k».proof.Proof.Gen.KernelIdeal.Frame
public import Idealize.ShloMosaic.Lib.Pipeline.ValueKit
public import Idealize.ShloMosaic.Lib.StableHlo.ReadAt

public import proofs.«01_k».proof.Proof.KDecode
public import proofs.«01_k».proof.Proof.Pad

@[expose] public section

set_option maxRecDepth 16384
noncomputable section

namespace Cert.KernelIdeal.Value
open Idealize.ShloMosaic Idealize.ShloMosaic.TcCoe Idealize.ShloMosaic.StableHlo Idealize.SL.Sem
open Cert.KernelIdeal.Gen

section
variable (V : Valuation τ sig (Elt Ideal))

/-- The state in which the first call starts, from the one the program starts in. -/
abbrev padded : Valuation τ sig (Elt Ideal) :=
  after hostOps0_5 (after hostOps0_4 (after hostOps0_3 (after hostOps0_2 (after hostOps0_1 (after hostOps0 V)))))

/-- The offsets keep their columns. -/
theorem offs_at (b : Fin 16) (k : Fin 4) (p : Fin 15232) (h : p.val < 15130) :
    padded V (Proc.devRef .tc main_v0) (ix3 b k p) = (V (Proc.devRef .tc main_arg0) (ix3 b k ⟨p.val, h⟩) : EReal) := by
  after_reads_at
  exact dif_pos h

/-- The default boxes, transposed, keep their columns. -/
theorem dflt_at (k : Fin 4) (p : Fin 15232) (h : p.val < 15130) :
    padded V (Proc.devRef .tc main_v3) (ix2 k p) = (V (Proc.devRef .tc main_arg2) (ix2 ⟨p.val, h⟩ k) : EReal) := by
  after_reads_at
  exact dif_pos h

/-- The class scores keep their columns. -/
theorem score_at (b : Fin 16) (k : Fin 81) (p : Fin 15232) (h : p.val < 15130) :
    padded V (Proc.devRef .tc main_v1) (ix3 b k p) = (V (Proc.devRef .tc main_arg1) (ix3 b k ⟨p.val, h⟩) : EReal) := by
  after_reads_at
  exact dif_pos h

/-- And the columns past the last box hold the padding score. -/
theorem score_pad (b : Fin 16) (k : Fin 81) (p : Fin 15232) (h : ¬ p.val < 15130) :
    padded V (Proc.devRef .tc main_v1) (ix3 b k p) = (Ideal.ofBits .f32 4048155338#32 : EReal) := by
  after_reads_at
  exact dif_neg h
end

variable (m : (ℓ : Loc nD τ sig) → Buf (Elt Ideal) ℓ) (ρ : Dev nD → PrngReg)

/-- The three arguments as arrays. -/
abbrev A0 (c : Dev nD) : (⟨3, ![16, 4, 15130]⟩ : Shape).Idx → EReal := m ((c : Thread nD τ).loc main_arg0)
abbrev A1 (c : Dev nD) : (⟨3, ![16, 81, 15130]⟩ : Shape).Idx → EReal := m ((c : Thread nD τ).loc main_arg1)
abbrev A2 (c : Dev nD) : (⟨2, ![15130, 4]⟩ : Shape).Idx → EReal := m ((c : Thread nD τ).loc main_arg2)

/-- After the first call: the boxes, in their columns. -/
theorem W7_box (c : Dev nD) (b : Fin 16) (k : Fin 4) (p : Fin 15232) (h : p.val < 15130) :
    W7 m ρ c (Proc.devRef .tc main_v4_0) (ix3 b k p) = (Spec.box (A0 m c) (A2 m c) b ⟨p.val, h⟩ k : EReal) := by
  refine (congrFun (W7_arr m ρ c 3) (ix3 b k p)).trans ((congrFun (box_array (V6 m ρ) c) (ix3 b k p)).trans ?_)
  unfold Spec.box
  refine congrArg₂ (fun x d => Spec.corners x d k) (funext fun l => ?_) (funext fun l => ?_)
  · exact offs_at (W0 m ρ c) b l p h
  · exact dflt_at (W0 m ρ c) l p h

/-- After the first call: the masked probabilities, in their columns. -/
theorem W7_prob (c : Dev nD) (b : Fin 16) (k : Fin 80) (p : Fin 15232) (h : p.val < 15130) :
    W7 m ρ c (Proc.devRef .tc main_v4_1) (ix3 b k p) = (Spec.prob (A1 m c) b k ⟨p.val, h⟩ : EReal) := by
  refine (congrFun (W7_arr m ρ c 4) (ix3 b k p)).trans ((congrFun (prob_array (V6 m ρ) c) (ix3 b k p)).trans ?_)
  unfold Spec.prob
  exact congrArg (fun x => Spec.masked x k) (funext fun l => score_at (W0 m ρ c) b l p h)

/-- And minus infinity in the padding. -/
theorem W7_pad (c : Dev nD) (b : Fin 16) (k : Fin 80) (p : Fin 15232) (h : ¬ p.val < 15130) :
    W7 m ρ c (Proc.devRef .tc main_v4_1) (ix3 b k p) = (Spec.low : EReal) := by
  refine (congrFun (W7_arr m ρ c 4) (ix3 b k p)).trans ((congrFun (prob_array (V6 m ρ) c) (ix3 b k p)).trans ?_)
  exact (congrArg (fun x => Spec.masked x k) (funext fun l => score_pad (W0 m ρ c) b l p h)).trans (Spec.masked_pad k)

end Cert.KernelIdeal.Value
-- ==== Proof.KCand.lean ====
module

public import proofs.«01_k».proof.Defs
public import proofs.«01_k».proof.Proof.Gen.KernelIdeal
public import proofs.«01_k».proof.Proof.Gen.KernelIdeal.Frame
public import Idealize.ShloMosaic.Lib.Pipeline.ValueKit
public import Idealize.ShloMosaic.Lib.StableHlo.ReadAt

public import proofs.«01_k».proof.Proof.KPick
public import proofs.«01_k».proof.Proof.KTake
public import proofs.«01_k».proof.Proof.KStart

@[expose] public section

set_option maxRecDepth 16384
noncomputable section

namespace Cert.KernelIdeal.Value
open Idealize.ShloMosaic Idealize.ShloMosaic.TcCoe Idealize.ShloMosaic.StableHlo Idealize.SL.Sem
open Cert.KernelIdeal.Gen

variable (m : (ℓ : Loc nD τ sig) → Buf (Elt Ideal) ℓ) (ρ : Dev nD → PrngReg) (c : Dev nD)

/-- A row of the first call's scores, padding and all. -/
abbrev rowP (i : Fin 1280) : Fin (17 * 896) → EReal := fun p => W7 m ρ c (Proc.devRef .tc main_v4_1) (ix3 (img i) (kind i) p)

theorem rowP_real (i : Fin 1280) (p : Fin 15130) : rowP m ρ c i (p.castLE (by omega)) = Spec.prob (A1 m c) (img i) (kind i) p :=
  W7_prob m ρ c (img i) (kind i) _ p.isLt

theorem rowP_fill (i : Fin 1280) (q : Fin (17 * 896)) (h : 15130 ≤ q.val) : rowP m ρ c i q = Spec.low :=
  W7_pad m ρ c (img i) (kind i) q (by omega)

/-- The padding does not change which boxes are chosen. -/
theorem order_rowP (i : Fin 1280) (j : Fin 200) :
    TopK.order (rowP m ρ c i) (j.castLE (by omega)) = (Spec.pos (A1 m c) (img i) (kind i) j).castLE (by omega) :=
  TopK.order_pad (n := 15130) (by omega) (Spec.prob (A1 m c) (img i) (kind i)) (rowP m ρ c i) (rowP_real m ρ c i)
    (fun p q h => by rw [rowP_fill m ρ c i q h, Spec.low_eq]; exact bot_le) (j.castLE (by omega))

theorem W8_values (i : Fin 1280) (j : Fin 200) :
    W8 m ρ c (Proc.devRef .tc main_values_2) (ix2 i j) = (Spec.candS (A1 m c) (img i) (kind i) j : EReal) :=
  (values2_at (W7 m ρ c) (rowP m ρ c) (fun _ _ => rfl) i j).trans
    ((congrArg (rowP m ρ c i) (order_rowP m ρ c i j)).trans (rowP_real m ρ c i _))

theorem W9_places (i : Fin 1280) (j : Fin 200) :
    W9 m ρ c (Proc.devRef .tc main_v14) (ix2 i j) = BitVec.ofNat 32 (Spec.pos (A1 m c) (img i) (kind i) j).val := by
  refine (take14_at (W8 m ρ c) _ (indices3_at (W7 m ρ c) (rowP m ρ c) (fun _ _ => rfl)) i j).trans ?_
  refine (v12_at (W7 m ρ c) (rowP m ρ c) (fun _ _ => rfl) i _).trans ?_
  refine congrArg (fun n : ℕ => BitVec.ofNat 32 n) ?_
  have h := TopK.order_spot (m := 17) (w := 896) (r := 200) (by omega) (by omega) (by omega) (rowP m ρ c i) j
  exact (congrArg Fin.val h).symm.trans ((congrArg Fin.val (order_rowP m ρ c i j)).trans (Fin.val_castLE _ _))

theorem row_img (b : Fin 16) (k : Fin 80) : img ⟨b.val * 80 + k.val, by omega⟩ = b := Fin.ext (by show (b.val * 80 + k.val) / 80 = b.val; omega)
theorem row_kind (b : Fin 16) (k : Fin 80) : kind ⟨b.val * 80 + k.val, by omega⟩ = k := Fin.ext (by show (b.val * 80 + k.val) % 80 = k.val; omega)

theorem W10_scores (b : Fin 16) (k : Fin 80) (j : Fin 200) :
    W10 m ρ c (Proc.devRef .tc main_v15) (ix3 b k j) = (Spec.candS (A1 m c) b k j : EReal) := by
  refine (v15_at (W9 m ρ c) b k j).trans ((congrFun (W9_of m ρ c main_values_2 (by decide)) _).trans ((W8_values m ρ c _ j).trans ?_))
  rw [row_img, row_kind]

theorem W10_places (b : Fin 16) (k : Fin 80) (j : Fin 200) :
    W10 m ρ c (Proc.devRef .tc main_v16) (ix3 b k j) = BitVec.ofNat 32 (Spec.pos (A1 m c) b k j).val := by
  refine (v16_at (W9 m ρ c) b k j).trans ((W9_places m ρ c _ j).trans ?_)
  rw [row_img, row_kind]

/-- A box as a column of the padded array. -/
def wide (p : Fin 15130) : Fin 15232 := ⟨p.val, by omega⟩

theorem wide_val (p : Fin 15130) : (wide p).val = p.val := rfl

theorem box_wide (b : Fin 16) (p : Fin 15130) (l : Fin 4) :
    W7 m ρ c (Proc.devRef .tc main_v4_0) (ix3 b l (wide p)) = (Spec.box (A0 m c) (A2 m c) b p l : EReal) :=
  W7_box m ρ c b l (wide p) p.isLt

/-- A chosen box's column. -/
def col (b : Fin 16) (k : Fin 80) (j : Fin 200) : Fin 15232 := wide (Spec.pos (A1 m c) b k j)

/-- The first call's boxes at a chosen box. -/
theorem box_col (b : Fin 16) (k : Fin 80) (j : Fin 200) (l : Fin 4) :
    W7 m ρ c (Proc.devRef .tc main_v4_0) (ix3 b l (col m c b k j)) = (Spec.candB (A0 m c) (A1 m c) (A2 m c) b k j l : EReal) :=
  box_wide m ρ c b _ l

theorem W10_col (b : Fin 16) (k : Fin 80) (j : Fin 200) :
    W10 m ρ c (Proc.devRef .tc main_v16) (ix3 b k j) = BitVec.ofNat 32 (col m c b k j).val :=
  (W10_places m ρ c b k j).trans (congrArg (fun n : ℕ => BitVec.ofNat 32 n) (wide_val (Spec.pos (A1 m c) b k j)).symm)

/-- The boxes and the positions stay put while the corners are looked up. -/
theorem keep_box9 : W9 m ρ c (Proc.devRef .tc main_v4_0) = W7 m ρ c (Proc.devRef .tc main_v4_0) :=
  (W9_of m ρ c main_v4_0 (by decide)).trans (W8_of m ρ c main_v4_0 (by decide))
theorem keep_box11 : W11 m ρ c (Proc.devRef .tc main_v4_0) = W7 m ρ c (Proc.devRef .tc main_v4_0) :=
  ((W11_of m ρ c main_v4_0 (by decide)).trans (W10_of m ρ c main_v4_0 (by decide))).trans (keep_box9 m ρ c)
theorem keep_box13 : W13 m ρ c (Proc.devRef .tc main_v4_0) = W7 m ρ c (Proc.devRef .tc main_v4_0) :=
  ((W13_of m ρ c main_v4_0 (by decide)).trans (W12_of m ρ c main_v4_0 (by decide))).trans (keep_box11 m ρ c)
theorem keep_box15 : W15 m ρ c (Proc.devRef .tc main_v4_0) = W7 m ρ c (Proc.devRef .tc main_v4_0) :=
  ((W15_of m ρ c main_v4_0 (by decide)).trans (W14_of m ρ c main_v4_0 (by decide))).trans (keep_box13 m ρ c)
theorem keep_place12 : W12 m ρ c (Proc.devRef .tc main_v16) = W10 m ρ c (Proc.devRef .tc main_v16) :=
  (W12_of m ρ c main_v16 (by decide)).trans (W11_of m ρ c main_v16 (by decide))
theorem keep_place14 : W14 m ρ c (Proc.devRef .tc main_v16) = W10 m ρ c (Proc.devRef .tc main_v16) :=
  ((W14_of m ρ c main_v16 (by decide)).trans (W13_of m ρ c main_v16 (by decide))).trans (keep_place12 m ρ c)
theorem keep_place16 : W16 m ρ c (Proc.devRef .tc main_v16) = W10 m ρ c (Proc.devRef .tc main_v16) :=
  ((W16_of m ρ c main_v16 (by decide)).trans (W15_of m ρ c main_v16 (by decide))).trans (keep_place14 m ρ c)

theorem W17_scores (b : Fin 16) (k : Fin 80) (j : Fin 200) :
    W17 m ρ c (Proc.devRef .tc main_v15) (ix3 b k j) = (Spec.candS (A1 m c) b k j : EReal) :=
  (congrFun (((((((W17_of m ρ c main_v15 (by decide)).trans (W16_of m ρ c main_v15 (by decide))).trans (W15_of m ρ c main_v15 (by decide))).trans (W14_of m ρ c main_v15 (by decide))).trans (W13_of m ρ c main_v15 (by decide))).trans (W12_of m ρ c main_v15 (by decide))).trans (W11_of m ρ c main_v15 (by decide))) _).trans (W10_scores m ρ c b k j)

theorem W17_left (b : Fin 16) (k : Fin 80) (j : Fin 200) :
    W17 m ρ c (Proc.devRef .tc main_v18) (ix3 b k j) = (Spec.candB (A0 m c) (A1 m c) (A2 m c) b k j 0 : EReal) :=
  (congrFun ((((((W17_of m ρ c main_v18 (by decide)).trans (W16_of m ρ c main_v18 (by decide))).trans (W15_of m ρ c main_v18 (by decide))).trans (W14_of m ρ c main_v18 (by decide))).trans (W13_of m ρ c main_v18 (by decide))).trans (W12_of m ρ c main_v18 (by decide))) _).trans
    ((take18_at (W10 m ρ c) (col m c) (W10_col m ρ c) b k j).trans
      ((slice17_at (W9 m ρ c) b _).trans ((congrFun (keep_box9 m ρ c) _).trans (box_col m ρ c b k j 0))))

theorem W17_top (b : Fin 16) (k : Fin 80) (j : Fin 200) :
    W17 m ρ c (Proc.devRef .tc main_v20) (ix3 b k j) = (Spec.candB (A0 m c) (A1 m c) (A2 m c) b k j 1 : EReal) :=
  (congrFun ((((W17_of m ρ c main_v20 (by decide)).trans (W16_of m ρ c main_v20 (by decide))).trans (W15_of m ρ c main_v20 (by decide))).trans (W14_of m ρ c main_v20 (by decide))) _).trans
    ((take20_at (W12 m ρ c) (col m c) (fun b k j => (congrFun (keep_place12 m ρ c) _).trans (W10_col m ρ c b k j)) b k j).trans
      ((slice19_at (W11 m ρ c) b _).trans ((congrFun (keep_box11 m ρ c) _).trans (box_col m ρ c b k j 1))))

theorem W17_right (b : Fin 16) (k : Fin 80) (j : Fin 200) :
    W17 m ρ c (Proc.devRef .tc main_v22) (ix3 b k j) = (Spec.candB (A0 m c) (A1 m c) (A2 m c) b k j 2 : EReal) :=
  (congrFun ((W17_of m ρ c main_v22 (by decide)).trans (W16_of m ρ c main_v22 (by decide))) _).trans
    ((take22_at (W14 m ρ c) (col m c) (fun b k j => (congrFun (keep_place14 m ρ c) _).trans (W10_col m ρ c b k j)) b k j).trans
      ((slice21_at (W13 m ρ c) b _).trans ((congrFun (keep_box13 m ρ c) _).trans (box_col m ρ c b k j 2))))

theorem W17_bottom (b : Fin 16) (k : Fin 80) (j : Fin 200) :
    W17 m ρ c (Proc.devRef .tc main_v24) (ix3 b k j) = (Spec.candB (A0 m c) (A1 m c) (A2 m c) b k j 3 : EReal) :=
  ((take24_at (W16 m ρ c) (col m c) (fun b k j => (congrFun (keep_place16 m ρ c) _).trans (W10_col m ρ c b k j)) b k j).trans
      ((slice23_at (W15 m ρ c) b _).trans ((congrFun (keep_box15 m ρ c) _).trans (box_col m ρ c b k j 3))))

end Cert.KernelIdeal.Value
-- ==== Proof.Rank.lean ====
/-
The first places of one sort with the values named: each row's largest entries and where they were.
-/
module

public import proofs.«01_k».proof.Proof.TopK
public import Idealize.ShloMosaic.Lib.Pipeline.ValueKit

@[expose] public section

noncomputable section

namespace Cert.TopK
open Idealize.ShloMosaic Idealize.ShloMosaic.TcCoe

/-- A matrix's rows ranked. -/
theorem rank2 {a n k : ℕ} (hk : k ≤ n) (X : Vec Ideal ⟨2, ![a, n]⟩ .f32) (K : Fin a → Fin n → EReal)
    (h : (⟨2, ![a, n]⟩ : Shape).Slices (fun _ => 0) ⟨2, ![a, k]⟩) (hX : ∀ i q, X (ix2 i q) = K i q) (i : Fin a) (j : Fin k) :
    (Host.topK ⟨2, ![a, k]⟩ 1 (FloatOps.cmpfTotal (F := Ideal) (φ := .f32) .gt) X h).1 (ix2 i j) = K i (order (K i) (j.castLE hk))
      ∧ (Host.topK ⟨2, ![a, k]⟩ 1 (FloatOps.cmpfTotal (F := Ideal) (φ := .f32) .gt) X h).2 (ix2 i j)
        = BitVec.ofNat 32 (order (K i) (j.castLE hk)).val := by
  have e : row2 X i = K i := funext fun q => hX i q
  have t := topK2 hk X h i j
  rw [e] at t
  exact ⟨t.1.trans (hX _ _), t.2⟩

/-- The same of an array of matrices. -/
theorem rank3 {a b n k : ℕ} (hk : k ≤ n) (X : Vec Ideal ⟨3, ![a, b, n]⟩ .f32) (K : Fin a → Fin b → Fin n → EReal)
    (h : (⟨3, ![a, b, n]⟩ : Shape).Slices (fun _ => 0) ⟨3, ![a, b, k]⟩) (hX : ∀ i p q, X (ix3 i p q) = K i p q)
    (i : Fin a) (p : Fin b) (j : Fin k) :
    (Host.topK ⟨3, ![a, b, k]⟩ 2 (FloatOps.cmpfTotal (F := Ideal) (φ := .f32) .gt) X h).1 (ix3 i p j) = K i p (order (K i p) (j.castLE hk))
      ∧ (Host.topK ⟨3, ![a, b, k]⟩ 2 (FloatOps.cmpfTotal (F := Ideal) (φ := .f32) .gt) X h).2 (ix3 i p j)
        = BitVec.ofNat 32 (order (K i p) (j.castLE hk)).val := by
  have e : row3 X i p = K i p := funext fun q => hX i p q
  have t := topK3 hk X h i p j
  rw [e] at t
  exact ⟨t.1.trans (hX _ _ _), t.2⟩

end Cert.TopK
end
-- ==== Proof.Words.lean ====
/-
The quotient of two small words, rounded down, the way the array program spells it: the truncated quotient, less one
where the signs differ and the division leaves a rest.
-/
module

public import Idealize.ShloMosaic.Lib.Routing.Words

@[expose] public section

namespace Cert.Words
open Idealize.ShloMosaic

/-- A positive word's sign is one. -/
theorem sign_pos {n : ℕ} (h0 : 0 < n) (hn : n < 2 ^ 31) :
    (if BitVec.ofNat 32 n = 0 then (0 : BitVec 32) else if BitVec.msb (BitVec.ofNat 32 n) = true then -1 else 1) = 1 := by
  rw [if_neg (Routing.ofNat32_ne_zero h0 (by omega)), if_neg]
  rw [BitVec.msb_eq_decide, BitVec.toNat_ofNat]
  simp only [decide_eq_true_eq]
  omega

theorem floor_div (u : ArithUnit) {n b : ℕ} (hn : n < 2 ^ 31) (h0 : 0 < b) (hb : b < 2 ^ 31) :
    Scalar.select
      (IntOp.andi
        (IntOp.cmpi .ne
          (if BitVec.ofNat 32 n = 0 then (0 : BitVec 32) else if BitVec.msb (BitVec.ofNat 32 n) = true then -1 else 1)
          (if BitVec.ofNat 32 b = 0 then (0 : BitVec 32) else if BitVec.msb (BitVec.ofNat 32 b) = true then -1 else 1))
        (IntOp.cmpi .ne (IntOp.remsi u (BitVec.ofNat 32 n) (BitVec.ofNat 32 b)) 0#32))
      (IntOp.subi (IntOp.divsi u (BitVec.ofNat 32 n) (BitVec.ofNat 32 b)) 1#32)
      (IntOp.divsi u (BitVec.ofNat 32 n) (BitVec.ofNat 32 b)) = BitVec.ofNat 32 (n / b) := by
  rw [Routing.remsi_word u hn h0 hb, Routing.divsi_word u hn h0 hb, sign_pos h0 hb]
  rcases Nat.eq_zero_or_pos n with h | h
  · subst h
    rw [Nat.zero_mod]
    rfl
  · rw [sign_pos h hn]
    exact if_neg (by rw [show IntOp.cmpi .ne (1 : BitVec 32) 1 = 0#1 from rfl]; unfold IntOp.andi; rw [BitVec.zero_and]; decide)

end Cert.Words
end
-- ==== Proof.KTail.lean ====
module

public import proofs.«01_k».proof.Defs
public import proofs.«01_k».proof.Proof.Gen.KernelIdeal
public import proofs.«01_k».proof.Proof.Gen.KernelIdeal.Frame
public import Idealize.ShloMosaic.Lib.Pipeline.ValueKit
public import Idealize.ShloMosaic.Lib.StableHlo.ReadAt

public import proofs.«01_k».proof.Proof.Rank
public import proofs.«01_k».proof.Proof.Take
public import proofs.«01_k».proof.Proof.Words
public import proofs.«01_k».proof.Proof.Spec

@[expose] public section

set_option maxRecDepth 16384
noncomputable section

namespace Cert.KernelIdeal.Value
open Idealize.ShloMosaic Idealize.ShloMosaic.TcCoe Idealize.ShloMosaic.StableHlo Idealize.SL.Sem
open Cert.KernelIdeal.Gen
variable (V : Valuation τ sig (Elt Ideal))

/-- The suppressed scores laid in one row per image. -/
theorem v26_at (b : Fin 16) (q : Fin 16000) :
    after hostOps2 V (Proc.devRef .tc main_v26) (ix2 b q) = (V (Proc.devRef .tc main_v25) (ix3 b (Spec.cls q) (Spec.slot q)) : EReal) := by
  after_reads_at
  rfl

section
variable (K : Fin 16 → Fin 16000 → EReal)
  (hK : ∀ b q, V (Proc.devRef .tc main_v25) (ix3 b (Spec.cls q) (Spec.slot q)) = K b q)
include hK

theorem values4_at (b : Fin 16) (j : Fin 200) :
    after hostOps2 V (Proc.devRef .tc main_values_4) (ix2 b j) = K b (TopK.order (K b) (j.castLE (by omega))) := by
  after_reads_at
  refine (TopK.rank2 (by omega) _ K _ (fun b q => ?_) b j).1
  exact (hK b q)

theorem indices5_at (b : Fin 16) (j : Fin 200) :
    after hostOps2 V (Proc.devRef .tc main_indices_5) (ix2 b j) = BitVec.ofNat 32 (TopK.order (K b) (j.castLE (by omega))).val := by
  after_reads_at
  refine (TopK.rank2 (by omega) _ K _ (fun b q => ?_) b j).2
  exact (hK b q)
end

/-- The detections' left edges. -/
theorem take28_at (f : Fin 16 → Fin 200 → Fin 16000)
    (h : ∀ b j, V (Proc.devRef .tc main_indices_5) (ix2 b j) = BitVec.ofNat 32 (f b j).val) (b : Fin 16) (j : Fin 200) :
    after hostOps2_1 V (Proc.devRef .tc main_v28) (ix2 b j) = (V (Proc.devRef .tc main_v27) (ix2 b (f b j)) : EReal) := by
  after_reads_simp
  simp -implicitDefEqProofs only [TRef.toBuf, TRef.ofBuf, cast_cast, cast_eq]
  exact Take.take2 (b := 15999) rfl (by omega) 16000#32 _ rfl rfl rfl rfl rfl rfl rfl _ _ _ (V (Proc.devRef .tc main_v27)) (V (Proc.devRef .tc main_indices_5)) _ f h b j

theorem row27_at (b : Fin 16) (q : Fin 16000) :
    after hostOps2 V (Proc.devRef .tc main_v27) (ix2 b q) = (V (Proc.devRef .tc main_v18) (ix3 b (Spec.cls q) (Spec.slot q)) : EReal) := by
  after_reads_at
  rfl

/-- The detections' top edges. -/
theorem take30_at (f : Fin 16 → Fin 200 → Fin 16000)
    (h : ∀ b j, V (Proc.devRef .tc main_indices_5) (ix2 b j) = BitVec.ofNat 32 (f b j).val) (b : Fin 16) (j : Fin 200) :
    after hostOps2_3 V (Proc.devRef .tc main_v30) (ix2 b j) = (V (Proc.devRef .tc main_v29) (ix2 b (f b j)) : EReal) := by
  after_reads_simp
  simp -implicitDefEqProofs only [TRef.toBuf, TRef.ofBuf, cast_cast, cast_eq]
  exact Take.take2 (b := 15999) rfl (by omega) 16000#32 _ rfl rfl rfl rfl rfl rfl rfl _ _ _ (V (Proc.devRef .tc main_v29)) (V (Proc.devRef .tc main_indices_5)) _ f h b j

theorem row29_at (b : Fin 16) (q : Fin 16000) :
    after hostOps2_2 V (Proc.devRef .tc main_v29) (ix2 b q) = (V (Proc.devRef .tc main_v20) (ix3 b (Spec.cls q) (Spec.slot q)) : EReal) := by
  after_reads_at
  rfl

/-- The detections' right edges. -/
theorem take32_at (f : Fin 16 → Fin 200 → Fin 16000)
    (h : ∀ b j, V (Proc.devRef .tc main_indices_5) (ix2 b j) = BitVec.ofNat 32 (f b j).val) (b : Fin 16) (j : Fin 200) :
    after hostOps2_5 V (Proc.devRef .tc main_v32) (ix2 b j) = (V (Proc.devRef .tc main_v31) (ix2 b (f b j)) : EReal) := by
  after_reads_simp
  simp -implicitDefEqProofs only [TRef.toBuf, TRef.ofBuf, cast_cast, cast_eq]
  exact Take.take2 (b := 15999) rfl (by omega) 16000#32 _ rfl rfl rfl rfl rfl rfl rfl _ _ _ (V (Proc.devRef .tc main_v31)) (V (Proc.devRef .tc main_indices_5)) _ f h b j

theorem row31_at (b : Fin 16) (q : Fin 16000) :
    after hostOps2_4 V (Proc.devRef .tc main_v31) (ix2 b q) = (V (Proc.devRef .tc main_v22) (ix3 b (Spec.cls q) (Spec.slot q)) : EReal) := by
  after_reads_at
  rfl

/-- The detections' bottom edges. -/
theorem take34_at (f : Fin 16 → Fin 200 → Fin 16000)
    (h : ∀ b j, V (Proc.devRef .tc main_indices_5) (ix2 b j) = BitVec.ofNat 32 (f b j).val) (b : Fin 16) (j : Fin 200) :
    after hostOps2_7 V (Proc.devRef .tc main_v34) (ix2 b j) = (V (Proc.devRef .tc main_v33) (ix2 b (f b j)) : EReal) := by
  after_reads_simp
  simp -implicitDefEqProofs only [TRef.toBuf, TRef.ofBuf, cast_cast, cast_eq]
  exact Take.take2 (b := 15999) rfl (by omega) 16000#32 _ rfl rfl rfl rfl rfl rfl rfl _ _ _ (V (Proc.devRef .tc main_v33)) (V (Proc.devRef .tc main_indices_5)) _ f h b j

theorem row33_at (b : Fin 16) (q : Fin 16000) :
    after hostOps2_6 V (Proc.devRef .tc main_v33) (ix2 b q) = (V (Proc.devRef .tc main_v24) (ix3 b (Spec.cls q) (Spec.slot q)) : EReal) := by
  after_reads_at
  rfl

/-- The four corners side by side. -/
theorem stack_at (b : Fin 16) (j : Fin 200) (l : Fin 4) :
    after hostOps2_8 V (Proc.devRef .tc main_v39) (ix3 b j l)
      = (![V (Proc.devRef .tc main_v28) (ix2 b j), V (Proc.devRef .tc main_v30) (ix2 b j),
          V (Proc.devRef .tc main_v32) (ix2 b j), V (Proc.devRef .tc main_v34) (ix2 b j)] l : EReal) := by
  fin_cases l
  · show after hostOps2_8 V (Proc.devRef .tc main_v39) (ix3 b j 0) = (V (Proc.devRef .tc main_v28) (ix2 b j) : EReal)
    after_reads_at
    after_reads_at
  · show after hostOps2_8 V (Proc.devRef .tc main_v39) (ix3 b j 1) = (V (Proc.devRef .tc main_v30) (ix2 b j) : EReal)
    after_reads_at
    after_reads_at
  · show after hostOps2_8 V (Proc.devRef .tc main_v39) (ix3 b j 2) = (V (Proc.devRef .tc main_v32) (ix2 b j) : EReal)
    after_reads_at
    after_reads_at
  · show after hostOps2_8 V (Proc.devRef .tc main_v39) (ix3 b j 3) = (V (Proc.devRef .tc main_v34) (ix2 b j) : EReal)
    after_reads_at
    after_reads_at

/-- The detections' scores with zero for "no detection". -/
theorem v46_at (b : Fin 16) (j : Fin 200) :
    after hostOps2_11 (after hostOps2_10 V) (Proc.devRef .tc main_v46) (ix2 b j)
      = Spec.shown (V (Proc.devRef .tc main_values_4) (ix2 b j)) := by
  after_reads_at
  rfl

/-- The detections' labels: the class of a position, counted from one. -/
theorem v42_at (f : Fin 16 → Fin 200 → Fin 16000)
    (h : ∀ b j, V (Proc.devRef .tc main_indices_5) (ix2 b j) = BitVec.ofNat 32 (f b j).val) (b : Fin 16) (j : Fin 200) :
    after hostOps2_10 (after hostOps2_9 (after hostOps2_8 V)) (Proc.devRef .tc main_v42) (ix2 b j)
      = IntOp.addi (BitVec.ofNat 32 (Spec.cls (f b j)).val) 1#32 := by
  have hf := h b j
  after_reads_at
  dsimp only [id]
  refine congrArg (IntOp.addi · 1#32) ?_
  generalize V (Proc.devRef .tc main_indices_5) (ix2 b j) = x at hf ⊢
  subst hf
  exact Words.floor_div .host (n := (f b j).val) (b := 200) (by omega) (by omega) (by omega)
end Cert.KernelIdeal.Value
-- ==== Proof.KNms.lean ====
module

public import proofs.«01_k».proof.Defs
public import proofs.«01_k».proof.Proof.Gen.KernelIdeal
public import proofs.«01_k».proof.Proof.Gen.KernelIdeal.Frame
public import Idealize.ShloMosaic.Lib.Pipeline.ValueKit
public import Idealize.ShloMosaic.Lib.StableHlo.ReadAt

public import Idealize.ShloMosaic.Lib.Pipeline.ReadBack
public import proofs.«01_k».proof.Proof.Take
public import proofs.«01_k».proof.Proof.Spec

@[expose] public section

set_option maxRecDepth 16384
noncomputable section

namespace Cert.KernelIdeal.Value
open Idealize.ShloMosaic Idealize.ShloMosaic.TcCoe Idealize.ShloMosaic.StableHlo Idealize.SL.Sem
open Cert.KernelIdeal.Gen

/-- The masks as the body stores them, before the loop. -/
abbrev stored (arg8 : Memref sig .tc .vmem S200x16x200 .f32) (M : Vec Ideal S200x16x200 .f32) :=
  arg8.view.writes (Elt Ideal) arg8.view.junk [⟨Rect.unit ![0, 0, 0] ![200, 16, 200] inb_S200x16x200_S200x16x200_0_0_0, M⟩]

/-- What one trip of the loop yields. -/
theorem trip_at (c : Dev nD) (i : grid1.Coords) (arg2 : Memref sig .tc .vmem S1x16x200 .f32) (harg2 : arg2.IsWhole) (arg3 : Memref sig .tc .vmem S1x16x200 .f32) (harg3 : arg3.IsWhole) (arg4 : Memref sig .tc .vmem S1x16x200 .f32) (harg4 : arg4.IsWhole) (arg5 : Memref sig .tc .vmem S1x16x200 .f32) (harg5 : arg5.IsWhole) (arg6 : Memref sig .tc .vmem S1x16x200 .f32) (harg6 : arg6.IsWhole) (arg7 : Memref sig .tc .vmem S1x16x200 .f32) (harg7 : arg7.IsWhole) (arg8 : Memref sig .tc .vmem S200x16x200 .f32) (harg8 : arg8.IsWhole)
    (M : Vec Ideal S200x16x200 .f32) (k : Fin k1_t1_loop.trips) (hk : k.val < 200) (v : FVec Ideal S16x200 .f32) (q : Fin 16) (j : Fin 200) :
    tripR_k1_t1 Variants.none c none i arg2 harg2 arg3 harg3 arg4 harg4 arg5 harg5 arg6 harg6 arg7 harg7 arg8 harg8
      (stored arg8 M) k v (ix2 q j) = (v (ix2 q j) * (1 - M (ix3 ⟨k.val, hk⟩ q j) *
        ∑ x, Scalar.select (IntOp.cmpi .eq (BitVec.ofNat 32 x.val) (BitVec.ofNat 32 k.val)) (v (ix2 q x)) 0) : EReal) := by
  unfold tripR_k1_t1 trip_k1_t1
  dsimp only
  frame_out
  pointwise [k1_pay15]
  have e0 : k1_off1 k 0 = k.val := congrFun (k1_off1_eq k) 0
  have e1 : k1_off1 k 1 = 0 := congrFun (k1_off1_eq k) 1
  have e2 : k1_off1 k 2 = 0 := congrFun (k1_off1_eq k) 2
  have ei : Scf.iv 0#32 1#32 k.val = BitVec.ofNat 32 k.val := by unfold Scf.iv; simp
  simp only [e0, e1, e2, ei, Nat.zero_add]
  rfl

/-- A bit as the number the kernel keeps it as. -/
def num (p : Bool) : EReal := if p = true then 1 else 0

/-- The trip's arithmetic on such numbers is the trip's logic. -/
theorem num_step (p q r : Bool) : (num p * (1 - num q * num r) : EReal) = num (p && !(q && r)) := by
  have h : (1 - 1 : EReal) = 0 := EReal.sub_self (by decide) (by decide)
  cases p <;> cases q <;> cases r <;> simp [num, h]

/-- Picking one candidate's number out by summing over all of them with the others masked to zero. -/
theorem pick (v : Fin 200 → EReal) (k : Fin 200) :
    (∑ x : Fin 200, Scalar.select (IntOp.cmpi .eq (BitVec.ofNat 32 x.val) (BitVec.ofNat 32 k.val)) (v x) 0 : EReal) = v k := by
  refine (Finset.sum_eq_single k (fun x _ hx => ?_) (fun h => absurd (Finset.mem_univ k) h)).trans ?_
  · have hne : BitVec.ofNat 32 x.val ≠ BitVec.ofNat 32 k.val := fun e => hx (Fin.ext (by
      have := congrArg BitVec.toNat e
      simp only [BitVec.toNat_ofNat] at this
      omega))
    have : IntOp.cmpi .eq (BitVec.ofNat 32 x.val) (BitVec.ofNat 32 k.val) = 0#1 := by
      show BitVec.ofBool (BitVec.ofNat 32 x.val == BitVec.ofNat 32 k.val) = _
      rw [beq_false_of_ne hne]; rfl
    rw [this]; rfl
  · have : IntOp.cmpi .eq (BitVec.ofNat 32 k.val) (BitVec.ofNat 32 k.val) = 1#1 := by
      show BitVec.ofBool (BitVec.ofNat 32 k.val == BitVec.ofNat 32 k.val) = _
      rw [beq_self_eq_true]; rfl
    rw [this]; rfl

/-- The four coordinate blocks as one candidate's corners. -/
abbrev blkB (x0 x1 x2 x3 : Vec Ideal S1x16x200 .f32) (q : Fin 16) (j : Fin 200) : Fin 4 → EReal :=
  ![x0 (ix3 0 q j), x1 (ix3 0 q j), x2 (ix3 0 q j), x3 (ix3 0 q j)]

/-- The scores block, one class's candidates. -/
abbrev blkS (x4 : Vec Ideal S1x16x200 .f32) (q : Fin 16) (j : Fin 200) : EReal := x4 (ix3 0 q j)

/-- The masks as the kernel computes them from its four coordinate blocks. -/
abbrev masks (x0 x1 x2 x3 : Vec Ideal S1x16x200 .f32) : Vec Ideal S200x16x200 .f32 :=
  k1_pay14 (k1_pay7 x0 x1 x2 x3) (k1_pay8 x0 x1 x2 x3) (k1_pay9 x0 x2) (k1_pay10 x3) (k1_pay11 x1) (k1_pay12 x1)

/-- Each mask says whether two candidates clash. -/
theorem mask_at (x0 x1 x2 x3 : Vec Ideal S1x16x200 .f32) (i j : Fin 200) (q : Fin 16) :
    masks x0 x1 x2 x3 (ix3 i q j) = num (Spec.clash (blkB x0 x1 x2 x3 q) i j) := by
  pointwise [k1_pay14, k1_pay7, k1_pay8, k1_pay9, k1_pay10, k1_pay11, k1_pay12, k1_pay6, k1_pay1, k1_pay2, k1_pay3, k1_pay4]
  rw [Take.later_bit (by omega)]
  have hs : ∀ p r : Bool, (Scalar.select (IntOp.andi (BitVec.ofBool p) (BitVec.ofBool r)) 1 0 : EReal) = num (p && r) := by
    intro p r; cases p <;> cases r <;> rfl
  exact hs _ _

/-- What the loop carries before trip `k`: who is still kept. -/
theorem carried_at (c : Dev nD) (i : grid1.Coords) (arg2 : Memref sig .tc .vmem S1x16x200 .f32) (harg2 : arg2.IsWhole) (arg3 : Memref sig .tc .vmem S1x16x200 .f32) (harg3 : arg3.IsWhole) (arg4 : Memref sig .tc .vmem S1x16x200 .f32) (harg4 : arg4.IsWhole) (arg5 : Memref sig .tc .vmem S1x16x200 .f32) (harg5 : arg5.IsWhole) (arg6 : Memref sig .tc .vmem S1x16x200 .f32) (harg6 : arg6.IsWhole) (arg7 : Memref sig .tc .vmem S1x16x200 .f32) (harg7 : arg7.IsWhole) (arg8 : Memref sig .tc .vmem S200x16x200 .f32) (harg8 : arg8.IsWhole)
    (M : Vec Ideal S200x16x200 .f32) (v : FVec Ideal S16x200 .f32) (q : Fin 16) (s : Fin 200 → EReal) (B : Fin 200 → Fin 4 → EReal)
    (hM : ∀ i j : Fin 200, M (ix3 i q j) = num (Spec.clash B i j)) (hv : ∀ j, v (ix2 q j) = num (decide (Spec.thr < s j))) :
    ∀ k, k ≤ 200 → ∀ j : Fin 200, st_k1_t1 Variants.none c none i arg2 harg2 arg3 harg3 arg4 harg4 arg5 harg5 arg6 harg6 arg7 harg7 arg8 harg8 (stored arg8 M) v k (ix2 q j) = num (Spec.keep s B k j)
  | 0, _, j => by rw [st_k1_t1_zero]; exact hv j
  | k + 1, hk, j => by
    have ht : k1_t1_loop.trips = 200 := by decide
    have ih := carried_at c i arg2 harg2 arg3 harg3 arg4 harg4 arg5 harg5 arg6 harg6 arg7 harg7 arg8 harg8 M v q s B hM hv k (by omega)
    rw [st_k1_t1_succ Variants.none c none i arg2 harg2 arg3 harg3 arg4 harg4 arg5 harg5 arg6 harg6 arg7 harg7 arg8 harg8 (stored arg8 M) v ⟨k, by omega⟩]
    refine (trip_at c i arg2 harg2 arg3 harg3 arg4 harg4 arg5 harg5 arg6 harg6 arg7 harg7 arg8 harg8 M ⟨k, by omega⟩ (by omega) _ q j).trans ?_
    rw [pick (fun x => st_k1_t1 Variants.none c none i arg2 harg2 arg3 harg3 arg4 harg4 arg5 harg5 arg6 harg6 arg7 harg7 arg8 harg8 (stored arg8 M) v k (ix2 q x)) ⟨k, by omega⟩]
    dsimp only
    rw [ih, ih, hM, num_step]
    exact congrArg num (Spec.keep_succ s B ⟨k, by omega⟩ j).symm

/-- What the body leaves in its output block: the suppressed scores. -/
theorem nms_block (c : Dev nD) (i : grid1.Coords) (arg2 : Memref sig .tc .vmem S1x16x200 .f32) (harg2 : arg2.IsWhole) (arg3 : Memref sig .tc .vmem S1x16x200 .f32) (harg3 : arg3.IsWhole) (arg4 : Memref sig .tc .vmem S1x16x200 .f32) (harg4 : arg4.IsWhole) (arg5 : Memref sig .tc .vmem S1x16x200 .f32) (harg5 : arg5.IsWhole) (arg6 : Memref sig .tc .vmem S1x16x200 .f32) (harg6 : arg6.IsWhole) (arg7 : Memref sig .tc .vmem S1x16x200 .f32) (harg7 : arg7.IsWhole) (arg8 : Memref sig .tc .vmem S200x16x200 .f32) (harg8 : arg8.IsWhole)
    (x0 x1 x2 x3 x4 : Vec Ideal S1x16x200 .f32) (q : Fin 16) (j : Fin 200) :
    out1_A_5 c i arg2 harg2 arg3 harg3 arg4 harg4 arg5 harg5 arg6 harg6 arg7 harg7 arg8 harg8 x0 x1 x2 x3 x4 (ix3 0 q j) = Spec.nms (blkS x4 q) (blkB x0 x1 x2 x3 q) j := by
  unfold out1_A_5
  rw [View.read_writes_eq_canon _ _ _ (cover1_A_5 c i arg2 harg2 arg3 harg3 arg4 harg4 arg5 harg5 arg6 harg6 arg7 harg7 arg8 harg8 x0 x1 x2 x3 x4)]
  unfold kernelRun1_A
  dsimp only
  frame_out
  have ht : Scf.trips (0#32) (Scalar.addi 0#32 200#32) 1#32 = 200 := by decide
  rw [ht]
  have hv : ∀ j, k1_pay13 (F := Ideal) (k1_pay5 (F := Ideal) x4) (ix2 q j) = num (decide (Spec.thr < blkS x4 q j)) := by
    intro j
    pointwise [k1_pay13, k1_pay5]
    by_cases h : Spec.thr < blkS x4 q j
    · rw [decide_eq_true h]; exact if_pos h
    · rw [decide_eq_false h]; exact if_neg h
  have hc := carried_at c i arg2 harg2 arg3 harg3 arg4 harg4 arg5 harg5 arg6 harg6 arg7 harg7 arg8 harg8 (masks x0 x1 x2 x3) (k1_pay13 (F := Ideal) (k1_pay5 x4)) q (blkS x4 q) (blkB x0 x1 x2 x3 q)
    (fun i j => mask_at x0 x1 x2 x3 i j q) hv 200 le_rfl j
  generalize st_k1_t1 (F := Ideal) Variants.none c none i arg2 harg2 arg3 harg3 arg4 harg4 arg5 harg5 arg6 harg6 arg7 harg7 arg8 harg8 _ _ 200 = w at hc ⊢
  pointwise [k1_pay16, k1_pay5]
  rw [hc]
  unfold Spec.nms
  cases Spec.keep (blkS x4 q) (blkB x0 x1 x2 x3 q) 200 j
  · exact if_neg (lt_irrefl _)
  · exact if_pos zero_lt_one

end Cert.KernelIdeal.Value
-- ==== Proof.KSuppress.lean ====
module

public import proofs.«01_k».proof.Defs
public import proofs.«01_k».proof.Proof.Gen.KernelIdeal
public import proofs.«01_k».proof.Proof.Gen.KernelIdeal.Frame
public import Idealize.ShloMosaic.Lib.Pipeline.ValueKit
public import Idealize.ShloMosaic.Lib.StableHlo.ReadAt

public import proofs.«01_k».proof.Proof.KNms

@[expose] public section

set_option maxRecDepth 16384
noncomputable section

namespace Cert.KernelIdeal.Value
open Idealize.ShloMosaic Idealize.ShloMosaic.TcCoe Idealize.ShloMosaic.StableHlo Idealize.SL.Sem
open Cert.KernelIdeal.Gen
open Idealize.ShloMosaic.Pipeline (Dat)

variable (V : (c : Dev nD) → (b : Ref sig .tc) → Buf (Elt Ideal) ((c : Thread nD τ).loc b))

/-- Every class's suppressed scores, from the five arrays the call is given. -/
def suppressed (X0 X1 X2 X3 X4 : S16x80x200.Idx → EReal) : S16x80x200.Idx → EReal := fun y =>
  Spec.nms (fun j => X4 (ix3 (y 0) (y 1) j)) (fun j => ![X0 (ix3 (y 0) (y 1) j), X1 (ix3 (y 0) (y 1) j), X2 (ix3 (y 0) (y 1) j), X3 (ix3 (y 0) (y 1) j)]) (y 2)

/-- Where each window's block lies at a point. -/
theorem idx1 : ∀ t : Fin cfg1.grid.N, win1_0.index t = ![t.val / 5, t.val % 5, 0] ∧ win1_1.index t = ![t.val / 5, t.val % 5, 0]
    ∧ win1_2.index t = ![t.val / 5, t.val % 5, 0] ∧ win1_3.index t = ![t.val / 5, t.val % 5, 0]
    ∧ win1_4.index t = ![t.val / 5, t.val % 5, 0] ∧ win1_5.index t = ![t.val / 5, t.val % 5, 0] := by decide +kernel

/-- Four equal corners, one by one. -/
theorem four {a b c d a' b' c' d' : EReal} (h0 : a = a') (h1 : b = b') (h2 : c = c') (h3 : d = d') :
    ![a, b, c, d] = ![a', b', c', d'] := by rw [h0, h1, h2, h3]

set_option maxHeartbeats 2000000 in
/-- The suppressed scores' array after the call. -/
theorem nms_array (c : Dev nD) :
    (dat1 V c).arrAt 5 cfg1.N = suppressed (V c main_v18) (V c main_v20) (V c main_v22) (V c main_v24) (V c main_v15) := by
  refine (dat1 V c).arrAt_eq_of_covers 5 _ (by decide +kernel) fun t hf y => ?_
  blk_simp
  rw [after1_5]
  unfold outsAt1
  idx_vars y
  obtain rfl : y0 = 0 := Subsingleton.elim _ _
  refine (nms_block c _ _ _ _ _ _ _ _ _ _ _ _ _ _ _ _ _ _ _ _ _ _).trans ?_
  unfold suppressed
  congr 1
  · funext k
    show (iblk1 V c 4 t (ix3 0 y1 k) : EReal) = _
    blk_ext [iblk1, idx1 t]
  · funext k
    refine four ?_ ?_ ?_ ?_
    · show (iblk1 V c 0 t (ix3 0 y1 k) : EReal) = _
      blk_ext [iblk1, idx1 t]
    · show (iblk1 V c 1 t (ix3 0 y1 k) : EReal) = _
      blk_ext [iblk1, idx1 t]
    · show (iblk1 V c 2 t (ix3 0 y1 k) : EReal) = _
      blk_ext [iblk1, idx1 t]
    · show (iblk1 V c 3 t (ix3 0 y1 k) : EReal) = _
      blk_ext [iblk1, idx1 t]
  · refine Fin.ext ?_; blk_simp [idx1 t]

end Cert.KernelIdeal.Value
-- ==== Proof.KPost.lean ====
module

public import proofs.«01_k».proof.Defs
public import proofs.«01_k».proof.Proof.Gen.KernelIdeal
public import proofs.«01_k».proof.Proof.Gen.KernelIdeal.Frame
public import Idealize.ShloMosaic.Lib.Pipeline.ValueKit
public import Idealize.ShloMosaic.Lib.StableHlo.ReadAt

public import proofs.«01_k».proof.Proof.KCand
public import proofs.«01_k».proof.Proof.KTail
public import proofs.«01_k».proof.Proof.KSuppress

@[expose] public section

set_option maxRecDepth 16384
noncomputable section

namespace Cert.KernelIdeal.Value
open Idealize.ShloMosaic Idealize.ShloMosaic.TcCoe Idealize.ShloMosaic.StableHlo Idealize.SL.Sem
open Cert.KernelIdeal.Gen

variable (m : (ℓ : Loc nD τ sig) → Buf (Elt Ideal) ℓ) (ρ : Dev nD → PrngReg) (c : Dev nD)

/-- Four numbers listed are the function that lists them. -/
theorem four_eta (B : Fin 4 → EReal) : ![B 0, B 1, B 2, B 3] = B := by
  funext l; fin_cases l <;> rfl

/-- The suppressed scores after the second call. -/
theorem W18_flat (b : Fin 16) (q : Fin 16000) :
    W18 m ρ c (Proc.devRef .tc main_v25) (ix3 b (Spec.cls q) (Spec.slot q)) = (Spec.flat (A0 m c) (A1 m c) (A2 m c) b q : EReal) := by
  refine (congrFun ((W18_arr m ρ c 5).trans (nms_array (V17 m ρ) c)) _).trans ?_
  unfold suppressed Spec.flat
  refine congrArg₂ (fun s B => Spec.nms s B (Spec.slot q)) (funext fun j => ?_) (funext fun j => ?_)
  · exact W17_scores m ρ c b (Spec.cls q) j
  · exact (four (W17_left m ρ c b (Spec.cls q) j) (W17_top m ρ c b (Spec.cls q) j) (W17_right m ρ c b (Spec.cls q) j)
      (W17_bottom m ρ c b (Spec.cls q) j)).trans (four_eta _)

/-- The candidates the detections are. -/
abbrev det (b : Fin 16) (j : Fin 200) : Fin 16000 := Spec.sel (A0 m c) (A1 m c) (A2 m c) b j

theorem W19_scores (b : Fin 16) (j : Fin 200) :
    W19 m ρ c (Proc.devRef .tc main_values_4) (ix2 b j) = (Spec.flat (A0 m c) (A1 m c) (A2 m c) b (det m c b j) : EReal) :=
  values4_at (W18 m ρ c) _ (W18_flat m ρ c) b j

theorem W19_places (b : Fin 16) (j : Fin 200) :
    W19 m ρ c (Proc.devRef .tc main_indices_5) (ix2 b j) = BitVec.ofNat 32 (det m c b j).val :=
  indices5_at (W18 m ρ c) _ (W18_flat m ρ c) b j

/-- A detection's corner `l`. -/
abbrev detB (b : Fin 16) (j : Fin 200) (l : Fin 4) : EReal :=
  Spec.candB (A0 m c) (A1 m c) (A2 m c) b (Spec.cls (det m c b j)) (Spec.slot (det m c b j)) l

/-- The positions stay put while the corners are looked up. -/
theorem keep_det21 (b : Fin 16) (j : Fin 200) :
    W21 m ρ c (Proc.devRef .tc main_indices_5) (ix2 b j) = BitVec.ofNat 32 (det m c b j).val :=
  (congrFun ((W21_of m ρ c main_indices_5 (by decide)).trans (W20_of m ρ c main_indices_5 (by decide))) _).trans (W19_places m ρ c b j)
theorem keep_det23 (b : Fin 16) (j : Fin 200) :
    W23 m ρ c (Proc.devRef .tc main_indices_5) (ix2 b j) = BitVec.ofNat 32 (det m c b j).val :=
  (congrFun ((W23_of m ρ c main_indices_5 (by decide)).trans (W22_of m ρ c main_indices_5 (by decide))) _).trans (keep_det21 m ρ c b j)
theorem keep_det25 (b : Fin 16) (j : Fin 200) :
    W25 m ρ c (Proc.devRef .tc main_indices_5) (ix2 b j) = BitVec.ofNat 32 (det m c b j).val :=
  (congrFun ((W25_of m ρ c main_indices_5 (by decide)).trans (W24_of m ρ c main_indices_5 (by decide))) _).trans (keep_det23 m ρ c b j)
theorem keep_det26 (b : Fin 16) (j : Fin 200) :
    W26 m ρ c (Proc.devRef .tc main_indices_5) (ix2 b j) = BitVec.ofNat 32 (det m c b j).val :=
  (congrFun (W26_of m ρ c main_indices_5 (by decide)) _).trans (keep_det25 m ρ c b j)

theorem W26_left (b : Fin 16) (j : Fin 200) :
    W26 m ρ c (Proc.devRef .tc main_v28) (ix2 b j) = detB m c b j 0 :=
  (congrFun ((((((W26_of m ρ c main_v28 (by decide)).trans (W25_of m ρ c main_v28 (by decide))).trans (W24_of m ρ c main_v28 (by decide))).trans (W23_of m ρ c main_v28 (by decide))).trans (W22_of m ρ c main_v28 (by decide))).trans (W21_of m ρ c main_v28 (by decide))) _).trans
    ((take28_at (W19 m ρ c) (det m c) (W19_places m ρ c) b j).trans
      ((row27_at (W18 m ρ c) b _).trans (((congrFun (W18_of m ρ c main_v18 (by decide)) _).trans (W17_left m ρ c b _ _)))))

theorem W26_top (b : Fin 16) (j : Fin 200) :
    W26 m ρ c (Proc.devRef .tc main_v30) (ix2 b j) = detB m c b j 1 :=
  (congrFun ((((W26_of m ρ c main_v30 (by decide)).trans (W25_of m ρ c main_v30 (by decide))).trans (W24_of m ρ c main_v30 (by decide))).trans (W23_of m ρ c main_v30 (by decide))) _).trans
    ((take30_at (W21 m ρ c) (det m c) (keep_det21 m ρ c) b j).trans
      ((row29_at (W20 m ρ c) b _).trans ((congrFun ((W20_of m ρ c main_v20 (by decide)).trans (W19_of m ρ c main_v20 (by decide))) _).trans
        ((congrFun (W18_of m ρ c main_v20 (by decide)) _).trans (W17_top m ρ c b _ _)))))

theorem W26_right (b : Fin 16) (j : Fin 200) :
    W26 m ρ c (Proc.devRef .tc main_v32) (ix2 b j) = detB m c b j 2 :=
  (congrFun ((W26_of m ρ c main_v32 (by decide)).trans (W25_of m ρ c main_v32 (by decide))) _).trans
    ((take32_at (W23 m ρ c) (det m c) (keep_det23 m ρ c) b j).trans
      ((row31_at (W22 m ρ c) b _).trans ((congrFun ((((W22_of m ρ c main_v22 (by decide)).trans (W21_of m ρ c main_v22 (by decide))).trans (W20_of m ρ c main_v22 (by decide))).trans (W19_of m ρ c main_v22 (by decide))) _).trans
        ((congrFun (W18_of m ρ c main_v22 (by decide)) _).trans (W17_right m ρ c b _ _)))))

theorem W26_bottom (b : Fin 16) (j : Fin 200) :
    W26 m ρ c (Proc.devRef .tc main_v34) (ix2 b j) = detB m c b j 3 :=
  ((take34_at (W25 m ρ c) (det m c) (keep_det25 m ρ c) b j).trans
      ((row33_at (W24 m ρ c) b _).trans ((congrFun ((((((W24_of m ρ c main_v24 (by decide)).trans (W23_of m ρ c main_v24 (by decide))).trans (W22_of m ρ c main_v24 (by decide))).trans (W21_of m ρ c main_v24 (by decide))).trans (W20_of m ρ c main_v24 (by decide))).trans (W19_of m ρ c main_v24 (by decide))) _).trans
        ((congrFun (W18_of m ρ c main_v24 (by decide)) _).trans (W17_bottom m ρ c b _ _)))))

/-- The kernel's three results. -/
theorem W30_boxes : W30 m ρ c (Proc.devRef .tc main_v39) = (Spec.outB (A0 m c) (A1 m c) (A2 m c) : S16x200x4.Idx → EReal) := by
  refine (((W30_of m ρ c main_v39 (by decide)).trans (W29_of m ρ c main_v39 (by decide))).trans (W28_of m ρ c main_v39 (by decide))).trans ?_
  funext y
  idx_vars y
  refine (stack_at (W26 m ρ c) y0 y1 y2).trans ?_
  exact congrFun ((four (W26_left m ρ c y0 y1) (W26_top m ρ c y0 y1) (W26_right m ρ c y0 y1) (W26_bottom m ρ c y0 y1)).trans
    (four_eta (detB m c y0 y1))) y2

theorem W30_scores : W30 m ρ c (Proc.devRef .tc main_v46) = (Spec.outS (A0 m c) (A1 m c) (A2 m c) : S16x200.Idx → EReal) := by
  funext y
  idx_vars y
  refine (v46_at (W28 m ρ c) y0 y1).trans (congrArg Spec.shown ?_)
  exact (congrFun (((((((((W28_of m ρ c main_values_4 (by decide)).trans (W27_of m ρ c main_values_4 (by decide))).trans (W26_of m ρ c main_values_4 (by decide))).trans (W25_of m ρ c main_values_4 (by decide))).trans (W24_of m ρ c main_values_4 (by decide))).trans (W23_of m ρ c main_values_4 (by decide))).trans (W22_of m ρ c main_values_4 (by decide))).trans (W21_of m ρ c main_values_4 (by decide))).trans (W20_of m ρ c main_values_4 (by decide))) _).trans (W19_scores m ρ c y0 y1)

theorem W30_labels : W30 m ρ c (Proc.devRef .tc main_v42) = (Spec.outL (A0 m c) (A1 m c) (A2 m c) : S16x200.Idx → BitVec 32) := by
  refine (W30_of m ρ c main_v42 (by decide)).trans ?_
  funext y
  idx_vars y
  exact v42_at (W26 m ρ c) (det m c) (keep_det26 m ρ c) y0 y1

end Cert.KernelIdeal.Value
-- ==== Proof.KRun.lean ====
module

public import proofs.«01_k».proof.Defs
public import proofs.«01_k».proof.Proof.Gen.KernelIdeal
public import proofs.«01_k».proof.Proof.Gen.KernelIdeal.Frame
public import Idealize.ShloMosaic.Lib.Pipeline.ValueKit
public import Idealize.ShloMosaic.Lib.StableHlo.ReadAt

public import proofs.«01_k».proof.Proof.KPost

@[expose] public section

set_option maxRecDepth 16384
noncomputable section

namespace Cert.KernelIdeal.Value
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- The kernel's run: its three results are the head's, and its arguments end unchanged. -/
theorem run : θ_run (defs (F := Ideal)) (onTc (τ := τ) (main (F := Ideal))) ⟨m, fun _ => 0, ρ⟩ (fun r => ∀ c : Dev nD,
      r.2.mem ((c.tc : Thread nD τ).loc main_v39) = (Spec.outB (A0 m c) (A1 m c) (A2 m c) : S16x200x4.Idx → EReal)
      ∧ r.2.mem ((c.tc : Thread nD τ).loc main_v46) = (Spec.outS (A0 m c) (A1 m c) (A2 m c) : S16x200.Idx → EReal)
      ∧ r.2.mem ((c.tc : Thread nD τ).loc main_v42) = (Spec.outL (A0 m c) (A1 m c) (A2 m c) : S16x200.Idx → BitVec 32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W30 m ρ c b)
    (hfin := fun c s' => by
      iintro ⟨⟨Hh, -⟩, HSI⟩
      unfold StableHlo.held
      imodintro
      iapply (pointsTo_read_all (Pipeline.ucRefs τ sig) (fun b => (((c : Thread nD τ)).1, b)) (W30 m ρ c) s')
      isplitl [Hh] <;> iassumption)
    (hQ := fun s h _ c =>
      ⟨(h c _ (mem_uc main_v39 (by decide))).trans (W30_boxes m ρ c),
       (h c _ (mem_uc main_v46 (by decide))).trans (W30_scores m ρ c),
       (h c _ (mem_uc main_v42 (by decide))).trans (W30_labels m ρ c),
       (h c _ (mem_uc main_arg0 (by decide))).trans (W30_main_arg0 m ρ c),
       (h c _ (mem_uc main_arg1 (by decide))).trans (W30_main_arg1 m ρ c),
       (h c _ (mem_uc main_arg2 (by decide))).trans (W30_main_arg2 m ρ c)⟩)

end Cert.KernelIdeal.Value
-- ==== Proof.RHead.lean ====
module

public import proofs.«01_k».proof.Defs
public import proofs.«01_k».proof.Proof.Gen.ReferenceIdeal
public import proofs.«01_k».proof.Proof.Gen.ReferenceIdeal.Run
public import Idealize.ShloMosaic.Lib.Pipeline.ValueKit
public import Idealize.ShloMosaic.Lib.StableHlo.ReadAt

public import proofs.«01_k».proof.Proof.Rank
public import proofs.«01_k».proof.Proof.Take
public import proofs.«01_k».proof.Proof.Spec
public import proofs.«01_k».proof.Proof.Pad

@[expose] public section

set_option maxRecDepth 16384
noncomputable section

namespace Cert.ReferenceIdeal.Value
open Idealize.ShloMosaic Idealize.ShloMosaic.TcCoe Idealize.ShloMosaic.StableHlo Idealize.SL.Sem
open Cert.ReferenceIdeal.Gen
variable (V : Valuation τ sig (Elt Ideal))

/-- The decoded boxes. -/
theorem v51_at (b : Fin 16) (p : Fin 15130) (l : Fin 4) :
    after hostOps0 V (Proc.devRef .tc main_v51) (ix3 b p l)
      = Spec.box (V (Proc.devRef .tc main_arg0)) (V (Proc.devRef .tc main_arg2)) b p l := by
  fin_cases l
  · show after hostOps0 V (Proc.devRef .tc main_v51) (ix3 b p 0) = Spec.box (V (Proc.devRef .tc main_arg0)) (V (Proc.devRef .tc main_arg2)) b p 0
    after_reads_at
    after_reads_at
    rfl
  · show after hostOps0 V (Proc.devRef .tc main_v51) (ix3 b p 1) = Spec.box (V (Proc.devRef .tc main_arg0)) (V (Proc.devRef .tc main_arg2)) b p 1
    after_reads_at
    after_reads_at
    rfl
  · show after hostOps0 V (Proc.devRef .tc main_v51) (ix3 b p 2) = Spec.box (V (Proc.devRef .tc main_arg0)) (V (Proc.devRef .tc main_arg2)) b p 2
    after_reads_at
    after_reads_at
    rfl
  · show after hostOps0 V (Proc.devRef .tc main_v51) (ix3 b p 3) = Spec.box (V (Proc.devRef .tc main_arg0)) (V (Proc.devRef .tc main_arg2)) b p 3
    after_reads_at
    after_reads_at
    rfl

section
variable (P : Fin 16 → Fin 80 → Fin 15130 → EReal) (hP : ∀ b c p, V (Proc.devRef .tc main_v67) (ix3 b c p) = P b c p)
include hP

/-- The candidates' scores. -/
theorem values_at (b : Fin 16) (c : Fin 80) (j : Fin 200) :
    after hostOps0_2 V (Proc.devRef .tc main_values) (ix3 b c j) = P b c (TopK.order (P b c) (j.castLE (by omega))) := by
  after_reads_at
  exact (TopK.rank3 (by omega) _ P _ hP b c j).1

/-- Which boxes they are. -/
theorem v69_at (b : Fin 16) (c : Fin 80) (j : Fin 200) :
    after hostOps0_2 V (Proc.devRef .tc main_v69) (ix4 b c j 0) = BitVec.ofNat 32 (TopK.order (P b c) (j.castLE (by omega))).val := by
  after_reads_at
  exact (TopK.rank3 (by omega) _ P _ hP b c j).2
end

theorem v68_at (b : Fin 16) (p : Fin 15130) (l : Fin 4) :
    after hostOps0_2 V (Proc.devRef .tc main_v68) (ix4 b 0 p l) = (V (Proc.devRef .tc main_v51) (ix3 b p l) : EReal) := by
  after_reads_at

/-- The candidates' boxes. -/
theorem v70_at (f : Fin 16 → Fin 80 → Fin 200 → Fin 15130)
    (h : ∀ b c j, V (Proc.devRef .tc main_v69) (ix4 b c j 0) = BitVec.ofNat 32 (f b c j).val)
    (b : Fin 16) (c : Fin 80) (j : Fin 200) (l : Fin 4) :
    after hostOps0_3 V (Proc.devRef .tc main_v70) (ix4 b c j l) = (V (Proc.devRef .tc main_v68) (ix4 b 0 (f b c j) l) : EReal) := by
  after_reads_simp
  simp -implicitDefEqProofs only [TRef.toBuf, TRef.ofBuf, cast_cast, cast_eq]
  refine (Take.takeRow3 (b := 15129) rfl (by omega) 15130#32 _ rfl rfl rfl rfl rfl rfl rfl _ _ _ _ (V (Proc.devRef .tc main_v69)) _ f h b c j l).trans ?_
  pointwise

/-- What the loop starts with. -/
theorem start_boxes (b : Fin 16) (c : Fin 80) (j : Fin 200) (l : Fin 4) :
    after hostOps0_4 V (Proc.devRef .tc main_v74_0) (ix4 b c j l) = (V (Proc.devRef .tc main_v70) (ix4 b c j l) : EReal) := by
  after_reads_at
  rfl

theorem start_spots (j : Fin 200) : after hostOps0_4 V (Proc.devRef .tc main_v74_1) (ix1 j) = BitVec.ofNat 32 j.val := by
  after_reads_at
  dsimp only [id]
  pointwise

theorem start_trip : after hostOps0_4 V (Proc.devRef .tc main_v74_3) ix0 = 0#32 := by
  after_reads_at
  rfl

theorem start_keep (b : Fin 16) (c : Fin 80) (j : Fin 200) :
    after hostOps0_4 V (Proc.devRef .tc main_v74_4) (ix3 b c j)
      = BitVec.ofBool (decide (Spec.thr < (V (Proc.devRef .tc main_values) (ix3 b c j) : EReal))) := by
  after_reads_at
  dsimp only [id]
  pointwise

end Cert.ReferenceIdeal.Value
-- ==== Proof.Last.lean ====
/-
A three-dimensional array's largest entry and sum along its last axis, at any sizes.
-/
module

public import Idealize.ShloMosaic.Lib.Pipeline.ValueKit

@[expose] public section

noncomputable section

namespace Cert.Last
open Idealize.ShloMosaic Idealize.ShloMosaic.TcCoe

variable {a b n : ℕ} {u : Shape}

theorem max_at (x : FVec Ideal ⟨3, ![a, b, n]⟩ .f32) (init : u.Idx → Ideal .f32)
    (h : (⟨3, ![a, b, n]⟩ : Shape).ReducesTo [2] ⟨2, ![a, b]⟩) (hu : 0 < u.numel) (i : Fin a) (j : Fin b) :
    Host.reduce (FloatOps.maximumf (F := Ideal) (φ := .f32)) x init h hu (ix2 i j)
      = Finset.fold max (init (Shape.Idx.first hu)) (fun k : Fin n => x (ix3 i j k)) Finset.univ := by
  pointwise

theorem sum_at (x : FVec Ideal ⟨3, ![a, b, n]⟩ .f32) (init : u.Idx → Ideal .f32)
    (h : (⟨3, ![a, b, n]⟩ : Shape).ReducesTo [2] ⟨2, ![a, b]⟩) (hu : 0 < u.numel) (i : Fin a) (j : Fin b) :
    Host.reduceAdd x init h hu (ix2 i j) = (init (Shape.Idx.first hu) + ∑ k : Fin n, x (ix3 i j k) : EReal) := by
  pointwise

end Cert.Last
end
-- ==== Proof.RSoft.lean ====
module

public import proofs.«01_k».proof.Defs
public import proofs.«01_k».proof.Proof.Gen.ReferenceIdeal
public import proofs.«01_k».proof.Proof.Gen.ReferenceIdeal.Run
public import Idealize.ShloMosaic.Lib.Pipeline.ValueKit
public import Idealize.ShloMosaic.Lib.StableHlo.ReadAt

public import proofs.«01_k».proof.Proof.Rank
public import proofs.«01_k».proof.Proof.Take
public import proofs.«01_k».proof.Proof.Spec
public import proofs.«01_k».proof.Proof.Pad
public import proofs.«01_k».proof.Proof.Last

@[expose] public section

set_option maxRecDepth 16384
noncomputable section

namespace Cert.ReferenceIdeal.Value
open Idealize.ShloMosaic Idealize.ShloMosaic.TcCoe Idealize.ShloMosaic.StableHlo Idealize.SL.Sem
open Cert.ReferenceIdeal.Gen
variable (V : Valuation τ sig (Elt Ideal))

theorem zero_first (hu : 0 < S_.numel) : constant (F := Ideal) S_ .f32 0#32 (Shape.Idx.first hu) = (0 : EReal) := by
  pointwise

variable (A : FVec Ideal S16x81x15130 .f32) (hT : S16x81x15130.Transposes [0, 2, 1] S16x15130x81)
    (hR : S16x15130x81.ReducesTo [2] S16x15130) (hu : 0 < S_.numel) (h0 : S_.BroadcastsInDim S16x15130 ![])
    (h1 : S16x15130.BroadcastsInDim S16x15130x1 (![0, 1] : Fin 2 → Fin 3))
    (h2 : S16x15130x1.BroadcastsInDim S16x15130x81 (![0, 1, 2] : Fin 3 → Fin 3))
    (hs : S16x15130x81.Slices ![0, 0, 1] S16x15130x80) (ht : S16x15130x80.Transposes [0, 2, 1] S16x80x15130)
    (b : Fin 16) (p : Fin 15130)

/-- The scores with the classes last. -/
theorem moved_at (k : Fin 81) : transpose S16x15130x81 [0, 2, 1] A hT (ix3 b p k) = (A (ix3 b k p) : EReal) := by
  pointwise

/-- A box's largest score. -/
theorem top_of (T : FVec Ideal S16x15130x81 .f32) (hA : ∀ k, T (ix3 b p k) = (A (ix3 b k p) : EReal)) :
    Host.reduce FloatOps.maximumf T (constant S_ .f32 4286578688#32) hR hu (ix2 b p) = Spec.top (fun k => A (ix3 b k p)) :=
  (Last.max_at T (constant S_ .f32 4286578688#32) hR hu b p).trans
      (congrArg (fun f => Finset.fold max Spec.low f Finset.univ) (funext hA))

/-- The exponentials of the scores less the largest. -/
theorem exp_of (T : FVec Ideal S16x15130x81 .f32) (M : FVec Ideal S16x15130 .f32)
    (hA : ∀ k, T (ix3 b p k) = (A (ix3 b k p) : EReal)) (hM : M (ix2 b p) = Spec.top (fun k => A (ix3 b k p))) (k : Fin 81) :
    Host.exp (subf T (broadcastInDim S16x15130x81 ![0, 1, 2] h2 (broadcastInDim S16x15130x1 ![0, 1] h1
      (maximumf (broadcastInDim S16x15130 ![] h0 (constant S_ .f32 4286578688#32)) M)))) (ix3 b p k)
      = (Ideal.exp (A (ix3 b k p) - Spec.top (fun k => A (ix3 b k p))) : EReal) := by
  have e := hA k
  pointwise
  rw [hM, e]
  exact congrArg (fun x => Ideal.exp (_ - x)) ((congrArg (max · _) Spec.low_eq).trans (max_eq_right bot_le))

/-- Their sum. -/
theorem sum_of (E : FVec Ideal S16x15130x81 .f32) (f : Fin 81 → EReal) (hE : ∀ k, E (ix3 b p k) = f k) :
    Host.reduceAdd E (constant S_ .f32 0#32) hR hu (ix2 b p) = (∑ k, f k : EReal) :=
  (Last.sum_at E (constant S_ .f32 0#32) hR hu b p).trans
    ((congrArg₂ (· + ·) (zero_first hu) (Finset.sum_congr rfl fun k _ => hE k)).trans (zero_add _))

/-- The quotient, without the first class and with the classes moved forward. -/
theorem share_of (E : FVec Ideal S16x15130x81 .f32) (S : FVec Ideal S16x15130 .f32) (c : Fin 80) :
    transpose S16x80x15130 [0, 2, 1] (extractStridedSlice S16x15130x80 ![0, 0, 1]
      (Host.divf E (broadcastInDim S16x15130x81 ![0, 1, 2] h2 (broadcastInDim S16x15130x1 ![0, 1] h1 S))) hs) ht (ix3 b c p)
      = Ideal.div (E (ix3 b p ⟨1 + c.val, by omega⟩)) (S (ix2 b p)) := by
  pointwise

/-- The whole softmax: the text of the array program on an array `A` of scores. -/
theorem soft_of (c : Fin 80) :
    transpose S16x80x15130 [0, 2, 1] (extractStridedSlice S16x15130x80 ![0, 0, 1]
      (Host.divf
        (Host.exp (subf (transpose S16x15130x81 [0, 2, 1] A hT) (broadcastInDim S16x15130x81 ![0, 1, 2] h2 (broadcastInDim S16x15130x1 ![0, 1] h1
          (maximumf (broadcastInDim S16x15130 ![] h0 (constant S_ .f32 4286578688#32))
            (Host.reduce FloatOps.maximumf (transpose S16x15130x81 [0, 2, 1] A hT) (constant S_ .f32 4286578688#32) hR hu))))))
        (broadcastInDim S16x15130x81 ![0, 1, 2] h2 (broadcastInDim S16x15130x1 ![0, 1] h1
          (Host.reduceAdd (Host.exp (subf (transpose S16x15130x81 [0, 2, 1] A hT) (broadcastInDim S16x15130x81 ![0, 1, 2] h2 (broadcastInDim S16x15130x1 ![0, 1] h1
            (maximumf (broadcastInDim S16x15130 ![] h0 (constant S_ .f32 4286578688#32))
              (Host.reduce FloatOps.maximumf (transpose S16x15130x81 [0, 2, 1] A hT) (constant S_ .f32 4286578688#32) hR hu))))))
            (constant S_ .f32 0#32) hR hu)))) hs) ht (ix3 b c p) = Spec.soft (fun k => A (ix3 b k p)) c := by
  have tT := moved_at A hT b p
  have tE := exp_of A h0 h1 h2 b p _ _ tT (top_of A hR hu b p _ tT)
  refine (share_of _ _ _ _ b p _ _ c).trans ?_
  exact congrArg₂ Ideal.div (tE _) (sum_of _ _ b p _ _ tE)

/-- A comparison with the threshold. -/
theorem over_at (X : FVec Ideal S16x80x15130 .f32) (hb : S_.BroadcastsInDim S16x80x15130 ![]) (c : Fin 80) (y : EReal) (h : X (ix3 b c p) = y) :
    cmpf .ogt X (broadcastInDim S16x80x15130 ![] hb (constant S_ .f32 1028443341#32)) (ix3 b c p) = BitVec.ofBool (decide (Spec.thr < y)) := by
  subst h
  pointwise

/-- The class scores before the threshold. -/
theorem v64_at (c : Fin 80) :
    after hostOps0 V (Proc.devRef .tc main_v64) (ix3 b c p) = Spec.soft (fun k => V (Proc.devRef .tc main_arg1) (ix3 b k p)) c := by
  after_reads_simp
  exact soft_of _ _ _ _ _ _ _ _ _ b p c

/-- Which of them pass it. -/
theorem v66_at (c : Fin 80) :
    after hostOps0 V (Proc.devRef .tc main_v66) (ix3 b c p)
      = BitVec.ofBool (decide (Spec.thr < Spec.soft (fun k => V (Proc.devRef .tc main_arg1) (ix3 b k p)) c)) := by
  after_reads_simp
  exact over_at b p _ _ c _ (soft_of _ _ _ _ _ _ _ _ _ b p c)

theorem cst9_at : after hostOps0 V (Proc.devRef .tc main_cst_9) ix0 = Spec.low := by
  after_reads_at

/-- A choice by a bit. -/
theorem pick (p : Bool) (x y : EReal) : Scalar.select (BitVec.ofBool p) x y = if p = true then x else y := by
  cases p <;> rfl

/-- The masked class scores from the class scores. -/
theorem masked_at (c : Fin 80) (x : Fin 81 → EReal)
    (h64 : V (Proc.devRef .tc main_v64) (ix3 b c p) = Spec.soft x c)
    (h66 : V (Proc.devRef .tc main_v66) (ix3 b c p) = BitVec.ofBool (decide (Spec.thr < Spec.soft x c)))
    (h9 : V (Proc.devRef .tc main_cst_9) ix0 = Spec.low) :
    after hostOps0_1 V (Proc.devRef .tc main_v67) (ix3 b c p) = Spec.masked x c := by
  after_reads_at
  dsimp only [id]
  generalize V (Proc.devRef .tc main_v64) = X at h64 ⊢
  generalize V (Proc.devRef .tc main_v66) = Y at h66 ⊢
  generalize V (Proc.devRef .tc main_cst_9) = Z at h9 ⊢
  rw [h64, h66, h9]
  unfold Spec.masked
  refine (pick _ _ _).trans ?_
  simp only [decide_eq_true_eq]

/-- The masked class scores. -/
theorem v67_at (c : Fin 80) :
    after hostOps0_1 (after hostOps0 V) (Proc.devRef .tc main_v67) (ix3 b c p) = Spec.prob (V (Proc.devRef .tc main_arg1)) b c p :=
  masked_at (after hostOps0 V) b p c _ (v64_at V b p c) (v66_at V b p c) (cst9_at V)

end Cert.ReferenceIdeal.Value
-- ==== Proof.RTail.lean ====
module

public import proofs.«01_k».proof.Defs
public import proofs.«01_k».proof.Proof.Gen.ReferenceIdeal
public import proofs.«01_k».proof.Proof.Gen.ReferenceIdeal.Run
public import Idealize.ShloMosaic.Lib.Pipeline.ValueKit
public import Idealize.ShloMosaic.Lib.StableHlo.ReadAt

public import proofs.«01_k».proof.Proof.Rank
public import proofs.«01_k».proof.Proof.Take
public import proofs.«01_k».proof.Proof.Spec
public import proofs.«01_k».proof.Proof.RSoft

@[expose] public section

set_option maxRecDepth 16384
noncomputable section

namespace Cert.ReferenceIdeal.Value
open Idealize.ShloMosaic Idealize.ShloMosaic.TcCoe Idealize.ShloMosaic.StableHlo Idealize.SL.Sem
open Cert.ReferenceIdeal.Gen
variable (V : Valuation τ sig (Elt Ideal))

/-- A kept candidate's score, and minus infinity for one that is dropped. -/
theorem v75_at (s : Fin 16 → Fin 80 → Fin 200 → EReal) (B : Fin 16 → Fin 80 → Fin 200 → Fin 4 → EReal)
    (hs : ∀ b c j, V (Proc.devRef .tc main_values) (ix3 b c j) = s b c j)
    (hK : ∀ b c j, V (Proc.devRef .tc main_v74_4) (ix3 b c j) = BitVec.ofBool (Spec.keep (s b c) (B b c) 200 j))
    (b : Fin 16) (c : Fin 80) (j : Fin 200) :
    after hostOps0_6 (after hostOps0_5 V) (Proc.devRef .tc main_v75) (ix3 b c j) = Spec.nms (s b c) (B b c) j := by
  have h1 := hs b c j
  have h2 := hK b c j
  after_reads_at
  dsimp only [id]
  generalize V (Proc.devRef .tc main_v74_4) = X at h2 ⊢
  generalize V (Proc.devRef .tc main_values) = Y at h1 ⊢
  rw [h1, h2]
  exact (pick _ _ _)

theorem v81_at (b : Fin 16) (q : Fin 16000) :
    after hostOps0_7 V (Proc.devRef .tc main_v81) (ix2 b q) = (V (Proc.devRef .tc main_v75) (ix3 b (Spec.cls q) (Spec.slot q)) : EReal) := by
  after_reads_at
  rfl

theorem v82_at (b : Fin 16) (q : Fin 16000) (l : Fin 4) :
    after hostOps0_7 V (Proc.devRef .tc main_v82) (ix3 b q l) = (V (Proc.devRef .tc main_v70) (ix4 b (Spec.cls q) (Spec.slot q) l) : EReal) := by
  after_reads_at
  rfl

theorem v83_at (b : Fin 16) (q : Fin 16000) :
    after hostOps0_7 V (Proc.devRef .tc main_v83) (ix2 b q) = IntOp.addi (BitVec.ofNat 32 (Spec.cls q).val) 1#32 := by
  after_reads_at
  rfl

section
variable (K : Fin 16 → Fin 16000 → EReal)
  (hK : ∀ b q, V (Proc.devRef .tc main_v75) (ix3 b (Spec.cls q) (Spec.slot q)) = K b q)
include hK

theorem values14_at (b : Fin 16) (j : Fin 200) :
    after hostOps0_7 V (Proc.devRef .tc main_values_14) (ix2 b j) = K b (TopK.order (K b) (j.castLE (by omega))) := by
  after_reads_at
  exact (TopK.rank2 (by omega) _ K _ hK b j).1

theorem indices15_at (b : Fin 16) (j : Fin 200) :
    after hostOps0_7 V (Proc.devRef .tc main_indices_15) (ix2 b j) = BitVec.ofNat 32 (TopK.order (K b) (j.castLE (by omega))).val := by
  after_reads_at
  exact (TopK.rank2 (by omega) _ K _ hK b j).2

theorem v84_at (b : Fin 16) (j : Fin 200) :
    after hostOps0_7 V (Proc.devRef .tc main_v84) (ix3 b j 0) = BitVec.ofNat 32 (TopK.order (K b) (j.castLE (by omega))).val := by
  after_reads_at
  exact (TopK.rank2 (by omega) _ K _ hK b j).2
end

/-- The detections' boxes. -/
theorem v85_at (f : Fin 16 → Fin 200 → Fin 16000)
    (h : ∀ b j, V (Proc.devRef .tc main_v84) (ix3 b j 0) = BitVec.ofNat 32 (f b j).val) (b : Fin 16) (j : Fin 200) (l : Fin 4) :
    after hostOps0_8 V (Proc.devRef .tc main_v85) (ix3 b j l) = (V (Proc.devRef .tc main_v82) (ix3 b (f b j) l) : EReal) := by
  after_reads_simp
  simp -implicitDefEqProofs only [TRef.toBuf, TRef.ofBuf, cast_cast, cast_eq]
  exact Take.takeRow2 (b := 15999) rfl (by omega) 16000#32 _ rfl rfl rfl rfl rfl rfl rfl _ _ _ (V (Proc.devRef .tc main_v82)) (V (Proc.devRef .tc main_v84)) _ f h b j l

/-- The detections' labels. -/
theorem v86_at (f : Fin 16 → Fin 200 → Fin 16000)
    (h : ∀ b j, V (Proc.devRef .tc main_indices_15) (ix2 b j) = BitVec.ofNat 32 (f b j).val) (b : Fin 16) (j : Fin 200) :
    after hostOps0_9 V (Proc.devRef .tc main_v86) (ix2 b j) = V (Proc.devRef .tc main_v83) (ix2 b (f b j)) := by
  after_reads_simp
  simp -implicitDefEqProofs only [TRef.toBuf, TRef.ofBuf, cast_cast, cast_eq]
  exact Take.take2 (b := 15999) rfl (by omega) 16000#32 _ rfl rfl rfl rfl rfl rfl rfl _ _ _ (V (Proc.devRef .tc main_v83)) (V (Proc.devRef .tc main_indices_15)) _ f h b j

/-- The detections' scores. -/
theorem v90_at (b : Fin 16) (j : Fin 200) :
    after hostOps0_11 (after hostOps0_10 V) (Proc.devRef .tc main_v90) (ix2 b j) = Spec.shown (V (Proc.devRef .tc main_values_14) (ix2 b j)) := by
  after_reads_at
  rfl

end Cert.ReferenceIdeal.Value
-- ==== Proof.Slice.lean ====
/-
A window of extent one cut out of one axis of an array at a given place, read at an index.
-/
module

public import Idealize.ShloMosaic.Lib.Pipeline.ValueKit

@[expose] public section

namespace Cert.Slice
open Idealize.ShloMosaic Idealize.ShloMosaic.TcCoe

/-- A window that starts inside the array reads it at the start plus the index. -/
theorem dynSlice_at {α : Type} {s t : Shape} (x : s.Idx → α) (st : Fin s.rank → ℤ) (h : s.Slices (fun _ => 0) t)
    (j : t.Idx) (y : s.Idx)
    (hk : ∀ a : Fin s.rank, ∃ k : ℕ, st a = k ∧ k + t.size (a.cast h.1.symm) ≤ s.size a ∧
      (y a).val = k + (j (a.cast h.1.symm)).val) :
    Host.dynamicSlice t x st h j = x y := by
  rw [Host.dynamicSlice_apply]
  refine congrArg x (funext fun a => ?_)
  obtain ⟨k, hs, hle, hy⟩ := hk a
  rw [Shape.Idx.norm_def]
  refine Fin.ext ?_
  rw [hy]
  exact congrArg (· + _) (Host.clampedStart_of_le h.1 st a k hs hle)

/-- Cut from the last axis of a rank-3 array. -/
theorem dynSlice3 {α : Type} {a e n : ℕ} (x : (⟨3, ![a, e, n]⟩ : Shape).Idx → α) (st : Fin 3 → ℤ)
    (h : (⟨3, ![a, e, n]⟩ : Shape).Slices (fun _ => 0) ⟨3, ![a, e, 1]⟩) (p : Fin n) (h0 : st 0 = 0) (h1 : st 1 = 0)
    (h2 : st 2 = p.val) (i : Fin a) (q : Fin e) :
    Host.dynamicSlice ⟨3, ![a, e, 1]⟩ x st h (ix3 i q 0) = x (ix3 i q p) :=
  dynSlice_at x st h _ _ fun k => match k with
    | 0 => ⟨0, h0, (Nat.zero_add a).le, (Nat.zero_add i.val).symm⟩
    | 1 => ⟨0, h1, (Nat.zero_add e).le, (Nat.zero_add q.val).symm⟩
    | 2 => ⟨p.val, h2, p.isLt, rfl⟩

/-- Cut from the third axis of a rank-4 array. -/
theorem dynSlice4 {α : Type} {a e n l : ℕ} (x : (⟨4, ![a, e, n, l]⟩ : Shape).Idx → α) (st : Fin 4 → ℤ)
    (h : (⟨4, ![a, e, n, l]⟩ : Shape).Slices (fun _ => 0) ⟨4, ![a, e, 1, l]⟩) (p : Fin n) (h0 : st 0 = 0) (h1 : st 1 = 0)
    (h2 : st 2 = p.val) (h3 : st 3 = 0) (i : Fin a) (q : Fin e) (j : Fin l) :
    Host.dynamicSlice ⟨4, ![a, e, 1, l]⟩ x st h (ix4 i q 0 j) = x (ix4 i q p j) :=
  dynSlice_at x st h _ _ fun k => match k with
    | 0 => ⟨0, h0, (Nat.zero_add a).le, (Nat.zero_add i.val).symm⟩
    | 1 => ⟨0, h1, (Nat.zero_add e).le, (Nat.zero_add q.val).symm⟩
    | 2 => ⟨p.val, h2, p.isLt, rfl⟩
    | 3 => ⟨0, h3, (Nat.zero_add l).le, (Nat.zero_add j.val).symm⟩

end Cert.Slice
-- ==== Proof.RLoop.lean ====
module

public import proofs.«01_k».proof.Defs
public import proofs.«01_k».proof.Proof.Gen.ReferenceIdeal
public import proofs.«01_k».proof.Proof.Gen.ReferenceIdeal.Run
public import Idealize.ShloMosaic.Lib.Pipeline.ValueKit
public import Idealize.ShloMosaic.Lib.StableHlo.ReadAt

public import proofs.«01_k».proof.Proof.Take
public import proofs.«01_k».proof.Proof.Slice
public import proofs.«01_k».proof.Proof.Spec

@[expose] public section

set_option maxRecDepth 16384
noncomputable section

namespace Cert.ReferenceIdeal.Value
open Idealize.ShloMosaic Idealize.ShloMosaic.TcCoe Idealize.ShloMosaic.StableHlo Idealize.SL.Sem
open Cert.ReferenceIdeal.Gen
variable (V : Valuation τ sig (Elt Ideal))

/-- The loop's counter, wrapped as an index into a 200-long axis, is itself. -/
theorem wrap_ctr (x : BitVec 32) (k : Fin 200) (h : x = BitVec.ofNat 32 k.val) :
    (BitVec.toInt (Scalar.select (IntOp.cmpi .slt x 0#32) (IntOp.addi x 200#32) x)) = (k.val : ℤ) := by
  rw [h, Take.slt_zero (by omega)]
  exact Take.toInt_ofNat (by omega)

/-- The same of the loop's own start indices. -/
theorem start_at (k : Fin 200) (h : V (Proc.devRef .tc main_v74_3) ix0 = BitVec.ofNat 32 k.val) :
    BitVec.toInt (select (cmpi .slt (V (Proc.devRef .tc main_v74_3)) (constantI S_ 32 0#32))
      (addi (V (Proc.devRef .tc main_v74_3)) (constantI S_ 32 200#32)) (V (Proc.devRef .tc main_v74_3)) (Shape.Idx.first h_S_)) = (k.val : ℤ) := by
  have e : Shape.Idx.first h_S_ = ix0 := funext fun a => a.elim0
  rw [e]
  exact wrap_ctr _ k h

/-- The candidate whose turn it is, one element of the array of boxes. -/
theorem v96_at (b : Fin 16) (c : Fin 80) (l : Fin 4) (k : Fin 200) (h : V (Proc.devRef .tc main_v74_3) ix0 = BitVec.ofNat 32 k.val) :
    res_main_while0b_v96 V (ix4 b c 0 l) = (V (Proc.devRef .tc main_v74_0) (ix4 b c k l) : EReal) := by
  unfold res_main_while0b_v96
  exact Slice.dynSlice4 (V (Proc.devRef .tc main_v74_0)) _ _ k rfl rfl (start_at V k h) rfl b c l

/-- The three bits a trip combines. -/
theorem bits (p q r s : Bool) :
    IntOp.andi (BitVec.ofBool p) (~~~IntOp.andi (IntOp.andi (BitVec.ofBool q) (BitVec.ofBool r)) (BitVec.ofBool s))
      = BitVec.ofBool (p && !((q && r) && s)) := by
  cases p <;> cases q <;> cases r <;> cases s <;> rfl

/-- One trip's kept bits from the bits before it. -/
theorem step_at (k : Fin 200) (h3 : V (Proc.devRef .tc main_v74_3) ix0 = BitVec.ofNat 32 k.val)
    (h1 : ∀ j : Fin 200, V (Proc.devRef .tc main_v74_1) (ix1 j) = BitVec.ofNat 32 j.val)
    (B : Fin 16 → Fin 80 → Fin 200 → Fin 4 → EReal)
    (hB : ∀ b c j l, V (Proc.devRef .tc main_v74_0) (ix4 b c j l) = B b c j l)
    (K : Fin 16 → Fin 80 → Fin 200 → Bool)
    (hK : ∀ b c j, V (Proc.devRef .tc main_v74_4) (ix3 b c j) = BitVec.ofBool (K b c j))
    (b : Fin 16) (c : Fin 80) (j : Fin 200) :
    step_main_v74_4 V (ix3 b c j) = BitVec.ofBool (K b c j && !(Spec.clash (B b c) k j && K b c k)) := by
  unfold step_main_v74_4 res_main_while0b_v112 res_main_while0b_v107 res_main_while0b_v126
  dsimp only [id]
  generalize hks : Host.dynamicSlice S16x80x1 (V (Proc.devRef .tc main_v74_4)) _ _ = ks
  have hk : ks (ix3 b c 0) = BitVec.ofBool (K b c k) := by
    rw [← hks]
    exact (Slice.dynSlice3 (V (Proc.devRef .tc main_v74_4)) _ _ k rfl rfl (start_at V k h3) b c).trans (hK b c k)
  clear hks
  have hr : ∀ l, res_main_while0b_v96 V (ix4 b c 0 l) = B b c k l := fun l => (v96_at V b c l k h3).trans (hB b c k l)
  have hj := hB b c j
  have hKj := hK b c j
  have h1j := h1 j
  pointwise
  generalize V (Proc.devRef .tc main_v74_0) = X0 at *
  generalize res_main_while0b_v96 V = X1 at *
  generalize V (Proc.devRef .tc main_v74_3) = X3 at *
  generalize V (Proc.devRef .tc main_v74_4) = X4 at *
  generalize V (Proc.devRef .tc main_v74_1) = X5 at *
  simp only [hk, hr, hj, hKj, h1j, h3]
  rw [Take.later_bit (by omega)]
  exact bits _ _ _ _

/-- The iterated step holds the boxes, the positions, the trip's number and the kept bits. -/
theorem iter_at (B : Fin 16 → Fin 80 → Fin 200 → Fin 4 → EReal) (s : Fin 16 → Fin 80 → Fin 200 → EReal)
    (hB : ∀ b c j l, V (Proc.devRef .tc main_v74_0) (ix4 b c j l) = B b c j l)
    (h1 : ∀ j : Fin 200, V (Proc.devRef .tc main_v74_1) (ix1 j) = BitVec.ofNat 32 j.val)
    (h3 : V (Proc.devRef .tc main_v74_3) ix0 = 0#32)
    (hK : ∀ b c j, V (Proc.devRef .tc main_v74_4) (ix3 b c j) = BitVec.ofBool (decide (Spec.thr < s b c j))) :
    ∀ k, k ≤ 200 →
      (∀ b c j l, (STEP^[k] V) (Proc.devRef .tc main_v74_0) (ix4 b c j l) = B b c j l) ∧
      (∀ j : Fin 200, (STEP^[k] V) (Proc.devRef .tc main_v74_1) (ix1 j) = BitVec.ofNat 32 j.val) ∧
      (STEP^[k] V) (Proc.devRef .tc main_v74_3) ix0 = BitVec.ofNat 32 k ∧
      (∀ b c j, (STEP^[k] V) (Proc.devRef .tc main_v74_4) (ix3 b c j) = BitVec.ofBool (Spec.keep (s b c) (B b c) k j))
  | 0, _ => ⟨hB, h1, h3, hK⟩
  | k + 1, hk => by
    obtain ⟨i0, i1, i3, i4⟩ := iter_at B s hB h1 h3 hK k (by omega)
    rw [Function.iterate_succ_apply']
    refine ⟨fun b c j l => ?_, fun j => ?_, ?_, fun b c j => ?_⟩
    · rw [STEP_main_v74_0]; exact i0 b c j l
    · rw [STEP_main_v74_1]; exact i1 j
    · rw [STEP_main_v74_3]
      unfold step_main_v74_3
      dsimp only [id]
      pointwise
      exact (congrArg (IntOp.addi · 1#32) i3).trans (BitVec.ofNat_add k 1).symm
    · rw [STEP_main_v74_4]
      exact (step_at _ ⟨k, by omega⟩ i3 i1 B i0 _ i4 b c j).trans
        (congrArg BitVec.ofBool (Spec.keep_succ (s b c) (B b c) ⟨k, by omega⟩ j).symm)

end Cert.ReferenceIdeal.Value
-- ==== Proof.RPre.lean ====
module

public import proofs.«01_k».proof.Defs
public import proofs.«01_k».proof.Proof.Gen.ReferenceIdeal
public import proofs.«01_k».proof.Proof.Gen.ReferenceIdeal.Run
public import Idealize.ShloMosaic.Lib.Pipeline.ValueKit
public import Idealize.ShloMosaic.Lib.StableHlo.ReadAt

public import proofs.«01_k».proof.Proof.RHead
public import proofs.«01_k».proof.Proof.RTail
public import proofs.«01_k».proof.Proof.RSoft
public import proofs.«01_k».proof.Proof.RLoop
public import proofs.«01_k».proof.Proof.RefFrame

@[expose] public section

set_option maxRecDepth 16384
noncomputable section

namespace Cert.ReferenceIdeal.Value
open Idealize.ShloMosaic Idealize.ShloMosaic.TcCoe Idealize.ShloMosaic.StableHlo Idealize.SL.Sem
open Cert.ReferenceIdeal.Gen

variable (m : (ℓ : Loc nD τ sig) → Buf (Elt Ideal) ℓ) (c : Dev nD)

/-- The reference's three arguments. -/
abbrev A0 : (⟨3, ![16, 4, 15130]⟩ : Shape).Idx → EReal := m ((c : Thread nD τ).loc main_arg0)
abbrev A1 : (⟨3, ![16, 81, 15130]⟩ : Shape).Idx → EReal := m ((c : Thread nD τ).loc main_arg1)
abbrev A2 : (⟨2, ![15130, 4]⟩ : Shape).Idx → EReal := m ((c : Thread nD τ).loc main_arg2)

/-- The buffers after each stretch before the loop. -/
abbrev E0 : Valuation τ sig (Elt Ideal) := after hostOps0 (fun b => m (c, b))
abbrev E1 : Valuation τ sig (Elt Ideal) := after hostOps0_1 (E0 m c)
abbrev E2 : Valuation τ sig (Elt Ideal) := after hostOps0_2 (E1 m c)
abbrev E3 : Valuation τ sig (Elt Ideal) := after hostOps0_3 (E2 m c)
abbrev E4 : Valuation τ sig (Elt Ideal) := after hostOps0_4 (E3 m c)

theorem entry_eq : entryContents (F := Ideal) preI m c = E4 m c := rfl

theorem E1_boxes (b : Fin 16) (p : Fin 15130) (l : Fin 4) :
    E1 m c (Proc.devRef .tc main_v51) (ix3 b p l) = (Spec.box (A0 m c) (A2 m c) b p l : EReal) :=
  (congrFun (after_of_writes_sub hostOps0_1 (E0 m c) hostOps0_1_writes (r := main_v51) (by decide)) _).trans (v51_at (fun b => m (c, b)) b p l)

theorem E1_scores (b : Fin 16) (k : Fin 80) (p : Fin 15130) :
    E1 m c (Proc.devRef .tc main_v67) (ix3 b k p) = (Spec.prob (A1 m c) b k p : EReal) := v67_at (fun b => m (c, b)) b p k

theorem E2_scores (b : Fin 16) (k : Fin 80) (j : Fin 200) :
    E2 m c (Proc.devRef .tc main_values) (ix3 b k j) = (Spec.candS (A1 m c) b k j : EReal) :=
  values_at (E1 m c) _ (E1_scores m c) b k j

theorem E2_places (b : Fin 16) (k : Fin 80) (j : Fin 200) :
    E2 m c (Proc.devRef .tc main_v69) (ix4 b k j 0) = BitVec.ofNat 32 (Spec.pos (A1 m c) b k j).val :=
  v69_at (E1 m c) _ (E1_scores m c) b k j

theorem E3_boxes (b : Fin 16) (k : Fin 80) (j : Fin 200) (l : Fin 4) :
    E3 m c (Proc.devRef .tc main_v70) (ix4 b k j l) = (Spec.candB (A0 m c) (A1 m c) (A2 m c) b k j l : EReal) :=
  (v70_at (E2 m c) _ (E2_places m c) b k j l).trans ((v68_at (E1 m c) b _ l).trans (E1_boxes m c b _ l))

theorem E3_scores (b : Fin 16) (k : Fin 80) (j : Fin 200) :
    E3 m c (Proc.devRef .tc main_values) (ix3 b k j) = (Spec.candS (A1 m c) b k j : EReal) :=
  (congrFun (after_of_writes_sub hostOps0_3 (E2 m c) hostOps0_3_writes (r := main_values) (by decide)) _).trans (E2_scores m c b k j)

/-- The bits that say which candidates are kept, once the first `n` have had their say. -/
theorem trip_keep (n : ℕ) (hn : n ≤ 200) (b : Fin 16) (k : Fin 80) (j : Fin 200) :
    after condOps (atK (F := Ideal) m n c) (Proc.devRef .tc main_v74_4) (ix3 b k j)
      = BitVec.ofBool (Spec.keep (Spec.candS (A1 m c) b k) (Spec.candB (A0 m c) (A1 m c) (A2 m c) b k) n j) := by
  refine (congrFun ((cond_keeps (atK m n c) main_v74_4 (by decide)).trans (atK_agree m c n main_v74_4 (by decide))) _).trans ?_
  rw [entry_eq]
  exact (iter_at (E4 m c) (Spec.candB (A0 m c) (A1 m c) (A2 m c)) (Spec.candS (A1 m c))
    (fun b k j l => (start_boxes (E3 m c) b k j l).trans (E3_boxes m c b k j l)) (start_spots (E3 m c)) (start_trip (E3 m c))
    (fun b k j => (start_keep (E3 m c) b k j).trans (congrArg (fun x : EReal => BitVec.ofBool (decide (Spec.thr < x))) (E3_scores m c b k j)))
    n hn).2.2.2 b k j

theorem exit_keep (b : Fin 16) (k : Fin 80) (j : Fin 200) :
    exitV m c (Proc.devRef .tc main_v74_4) (ix3 b k j)
      = BitVec.ofBool (Spec.keep (Spec.candS (A1 m c) b k) (Spec.candB (A0 m c) (A1 m c) (A2 m c) b k) 200 j) := by
  unfold exitV
  exact trip_keep m c 200 le_rfl b k j

/-- The candidates' scores and boxes are not touched by the loop. -/
theorem exit_values : exitV m c (Proc.devRef .tc main_values) = E3 m c (Proc.devRef .tc main_values) :=
  (exitV_keep m c main_values (by decide) (by decide)).trans
    (after_of_writes_sub hostOps0_4 (E3 m c) hostOps0_4_writes (r := main_values) (by decide))

theorem keep4_v70 (V : Valuation τ sig (Elt Ideal)) :
    after hostOps0_4 V (Proc.devRef .tc main_v70) = V (Proc.devRef .tc main_v70) :=
  after_of_writes_sub hostOps0_4 V hostOps0_4_writes (r := main_v70) (by decide)

theorem exit_scores (b : Fin 16) (k : Fin 80) (j : Fin 200) :
    exitV m c (Proc.devRef .tc main_values) (ix3 b k j) = (Spec.candS (A1 m c) b k j : EReal) :=
  (congrFun (exit_values m c) (ix3 b k j)).trans (E3_scores m c b k j)

theorem exit_boxes (b : Fin 16) (k : Fin 80) (j : Fin 200) (l : Fin 4) :
    exitV m c (Proc.devRef .tc main_v70) (ix4 b k j l) = (Spec.candB (A0 m c) (A1 m c) (A2 m c) b k j l : EReal) := by
  refine (congrFun (exitV_keep m c main_v70 (by decide) (by decide)) (ix4 b k j l)).trans ?_
  rw [entry_eq]
  exact (congrFun (keep4_v70 (E3 m c)) (ix4 b k j l)).trans (E3_boxes m c b k j l)

end Cert.ReferenceIdeal.Value
-- ==== Proof.RRun.lean ====
module

public import proofs.«01_k».proof.Defs
public import proofs.«01_k».proof.Proof.Gen.ReferenceIdeal
public import proofs.«01_k».proof.Proof.Gen.ReferenceIdeal.Run
public import Idealize.ShloMosaic.Lib.Pipeline.ValueKit
public import Idealize.ShloMosaic.Lib.StableHlo.ReadAt

public import proofs.«01_k».proof.Proof.RPre

@[expose] public section

set_option maxRecDepth 16384
noncomputable section

namespace Cert.ReferenceIdeal.Value
open Idealize.ShloMosaic Idealize.ShloMosaic.TcCoe Idealize.ShloMosaic.StableHlo Idealize.SL.Sem
open Cert.ReferenceIdeal.Gen

section
variable (V : Valuation τ sig (Elt Ideal))

/-- What the last stretches leave alone. -/
theorem keep5_v70 : after hostOps0_6 (after hostOps0_5 V) (Proc.devRef .tc main_v70) = V (Proc.devRef .tc main_v70) := by after_reads_simp
theorem keep8_values : after hostOps0_9 (after hostOps0_8 V) (Proc.devRef .tc main_values_14) = V (Proc.devRef .tc main_values_14) := by after_reads_simp
theorem keep8_places : after hostOps0_8 V (Proc.devRef .tc main_indices_15) = V (Proc.devRef .tc main_indices_15) := by after_reads_simp
theorem keep8_v83 : after hostOps0_8 V (Proc.devRef .tc main_v83) = V (Proc.devRef .tc main_v83) := by after_reads_simp
theorem keep9_v85 : after hostOps0_11 (after hostOps0_10 (after hostOps0_9 V)) (Proc.devRef .tc main_v85) = V (Proc.devRef .tc main_v85) := by after_reads_simp
theorem keep10_v86 : after hostOps0_11 (after hostOps0_10 V) (Proc.devRef .tc main_v86) = V (Proc.devRef .tc main_v86) := by after_reads_simp
end

variable (m : (ℓ : Loc nD τ sig) → Buf (Elt Ideal) ℓ) (ρ : Dev nD → PrngReg) (c : Dev nD)

/-- The buffers after each stretch behind the loop. -/
abbrev P6 : Valuation τ sig (Elt Ideal) := after hostOps0_6 (after hostOps0_5 (exitV m c))
abbrev P7 : Valuation τ sig (Elt Ideal) := after hostOps0_7 (P6 m c)
abbrev P8 : Valuation τ sig (Elt Ideal) := after hostOps0_8 (P7 m c)
abbrev P9 : Valuation τ sig (Elt Ideal) := after hostOps0_9 (P8 m c)

theorem P6_flat (b : Fin 16) (q : Fin 16000) :
    P6 m c (Proc.devRef .tc main_v75) (ix3 b (Spec.cls q) (Spec.slot q)) = (Spec.flat (A0 m c) (A1 m c) (A2 m c) b q : EReal) :=
  v75_at (exitV m c) (Spec.candS (A1 m c)) (Spec.candB (A0 m c) (A1 m c) (A2 m c)) (exit_scores m c) (exit_keep m c) b _ _

/-- The candidates the detections are. -/
abbrev det (b : Fin 16) (j : Fin 200) : Fin 16000 := Spec.sel (A0 m c) (A1 m c) (A2 m c) b j

theorem P7_scores (b : Fin 16) (j : Fin 200) :
    P7 m c (Proc.devRef .tc main_values_14) (ix2 b j) = (Spec.flat (A0 m c) (A1 m c) (A2 m c) b (det m c b j) : EReal) :=
  values14_at (P6 m c) _ (P6_flat m c) b j

theorem P7_places (b : Fin 16) (j : Fin 200) :
    P7 m c (Proc.devRef .tc main_indices_15) (ix2 b j) = BitVec.ofNat 32 (det m c b j).val :=
  indices15_at (P6 m c) _ (P6_flat m c) b j

theorem P7_rows (b : Fin 16) (j : Fin 200) :
    P7 m c (Proc.devRef .tc main_v84) (ix3 b j 0) = BitVec.ofNat 32 (det m c b j).val :=
  v84_at (P6 m c) _ (P6_flat m c) b j

/-- The reference's three results. -/
theorem final_boxes : finalContents (F := Ideal) condOps preI bodyI postI 200 m c (Proc.devRef .tc main_v85)
    = (Spec.outB (A0 m c) (A1 m c) (A2 m c) : S16x200x4.Idx → EReal) := by
  rw [final_eq]
  refine (keep9_v85 (P8 m c)).trans ?_
  funext y
  idx_vars y
  refine (v85_at (P7 m c) (det m c) (P7_rows m c) y0 y1 y2).trans ((v82_at (P6 m c) y0 _ y2).trans ?_)
  exact (congrFun (keep5_v70 (exitV m c)) _).trans (exit_boxes m c y0 _ _ y2)

theorem final_scores : finalContents (F := Ideal) condOps preI bodyI postI 200 m c (Proc.devRef .tc main_v90)
    = (Spec.outS (A0 m c) (A1 m c) (A2 m c) : S16x200.Idx → EReal) := by
  rw [final_eq]
  funext y
  idx_vars y
  refine (v90_at (P9 m c) y0 y1).trans (congrArg Spec.shown ?_)
  exact (congrFun (keep8_values (P7 m c)) _).trans (P7_scores m c y0 y1)

theorem final_labels : finalContents (F := Ideal) condOps preI bodyI postI 200 m c (Proc.devRef .tc main_v86)
    = (Spec.outL (A0 m c) (A1 m c) (A2 m c) : S16x200.Idx → BitVec 32) := by
  rw [final_eq]
  refine (keep10_v86 (P9 m c)).trans ?_
  funext y
  idx_vars y
  refine (v86_at (P8 m c) (det m c) (fun b j => (congrFun (keep8_places (P7 m c)) _).trans (P7_places m c b j)) y0 y1).trans ?_
  exact (congrFun (keep8_v83 (P7 m c)) _).trans (v83_at (P6 m c) y0 _)

/-- The reference's run: its three results are the head's, and its arguments end unchanged. -/
theorem run : θ_run (defs (F := Ideal)) (onTc (τ := τ) (main (F := Ideal))) ⟨m, fun _ => 0, ρ⟩ (fun r => ∀ c : Dev nD,
      r.2.mem ((c.tc : Thread nD τ).loc main_v85) = (Spec.outB (A0 m c) (A1 m c) (A2 m c) : S16x200x4.Idx → EReal)
      ∧ r.2.mem ((c.tc : Thread nD τ).loc main_v90) = (Spec.outS (A0 m c) (A1 m c) (A2 m c) : S16x200.Idx → EReal)
      ∧ r.2.mem ((c.tc : Thread nD τ).loc main_v86) = (Spec.outL (A0 m c) (A1 m c) (A2 m c) : S16x200.Idx → BitVec 32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run (defs (F := Ideal)) _ _).mono
    (fun _ h c => ⟨(h c main_v85 rfl).trans (final_boxes m c), (h c main_v90 rfl).trans (final_scores m c),
      (h c main_v86 rfl).trans (final_labels m c), (h c main_arg0 rfl).trans (final_arg0 m c),
      (h c main_arg1 rfl).trans (final_arg1 m c), (h c main_arg2 rfl).trans (final_arg2 m c)⟩)
    (run_fold m ρ)

end Cert.ReferenceIdeal.Value
-- ==== Proof.Agree.lean ====
/- The kernel and the reference end with the same three results: each computes what `Spec` states of its arguments,
   and the two are given the same arguments. -/
module

public import proofs.«01_k».proof.Defs
public import proofs.«01_k».proof.Proof.KRun
public import proofs.«01_k».proof.Proof.RRun

@[expose] public section

noncomputable section

namespace Cert.Proof
open Idealize.ShloMosaic Idealize.SL.Sem

/-- From equal arguments the reference reaches the results the kernel reaches. -/
theorem agree : Cert.algebraic_KernelIdeal_ReferenceIdeal (hKernelIdeal := Cert.KernelIdeal.Gen.facts)
    (hReferenceIdeal := Cert.ReferenceIdeal.Gen.facts) := by
  intro m g m' g' _ h
  refine ⟨fun c => Spec.outB (KernelIdeal.Value.A0 m c) (KernelIdeal.Value.A1 m c) (KernelIdeal.Value.A2 m c),
    fun c => Spec.outS (KernelIdeal.Value.A0 m c) (KernelIdeal.Value.A1 m c) (KernelIdeal.Value.A2 m c),
    fun c => Spec.outL (KernelIdeal.Value.A0 m c) (KernelIdeal.Value.A1 m c) (KernelIdeal.Value.A2 m c),
    KernelIdeal.Value.run m g, ?_⟩
  refine (θ_run _ _ _).mono (fun r hr c => ?_) (ReferenceIdeal.Value.run m' g')
  have h0 : ReferenceIdeal.Value.A0 m' c = KernelIdeal.Value.A0 m c := (h c).1
  have h1 : ReferenceIdeal.Value.A1 m' c = KernelIdeal.Value.A1 m c := (h c).2.1
  have h2 : ReferenceIdeal.Value.A2 m' c = KernelIdeal.Value.A2 m c := (h c).2.2
  have e := hr c
  rw [h0, h1, h2] at e
  exact e

end Cert.Proof
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.RefFrame
public import proofs.«01_k».proof.Proof.Agree
public import Idealize.ShloMosaic.Adequacy
public import Idealize.ShloMosaic.Init

@[expose] public section

noncomputable section

namespace Cert.Proof

open Idealize.ShloMosaic Idealize.SL.Sem Cert.Kernel

/-- The claim: the two kernels' frames are generated, the reference's is read off its run, and the two agree. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ,
  fun m ρ _ => Cert.ReferenceIdeal.Value.frame m ρ, trivial, agree⟩

end Cert.Proof

end
